-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "gelu_kc" .f32 0x3D122279#32 (((Real.sqrt (2 * Real.pi⁻¹)) * (8943 / 200000) : ℝ) : EReal)
  ∧ IdealRules.named_const.Statement Cert.KernelIdeal.κ "gelu_k" .f32 0x3F4C422A#32 ((Real.sqrt (2 * Real.pi⁻¹) : ℝ) : EReal)
  ∧ IdealRules.named_const.Statement Cert.KernelIdeal.κ "three_half_kc" .f32 0x3D5B33B6#32 ((((3 / 2) * (Real.sqrt (2 * Real.pi⁻¹))) * (8943 / 200000) : ℝ) : EReal)
  ∧ IdealRules.named_const.Statement Cert.KernelIdeal.κ "half_k" .f32 0x3ECC422A#32 (((1 / 2) * (Real.sqrt (2 * Real.pi⁻¹)) : ℝ) : EReal)
  ∧ IdealRules.bf16_pack.Statement Cert.KernelIdeal.S256x256
  ∧ IdealRules.named_const.Statement Cert.KernelIdeal.κ "inv_max" .f32 0x37924925#32 ((1 / 57344 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S73728x1024 : Shape := ⟨2, ![73728, 1024]⟩
abbrev S_ : Shape := ⟨0, ![]⟩

class Facts : Prop where
  bitsLt_bf16_f32 : FTy.bits .bf16 < FTy.bits .f32
  bcast_S_S73728x1024 : S_.BroadcastsInDim S73728x1024 (![] : Fin 0 → Fin S73728x1024.rank)

variable [Facts]

def fn {F : FTy → Type} [FloatOps F] (main_arg0 : FVec F S73728x1024 .bf16) (main_arg1 : FVec F S73728x1024 .bf16) : IVec S73728x1024 1 :=
  let main_v0 : FVec F S73728x1024 .f32 := (extf .f32 · bitsLt_bf16_f32) main_arg1
  let main_v1 : FVec F S73728x1024 .f32 := Host.absf main_v0
  let main_cst : FVec F S_ .f32 := constant S_ .f32 0x7F7F0000#32
  let main_v2 : FVec F S73728x1024 .f32 := broadcastInDim S73728x1024 ![] bcast_S_S73728x1024 main_cst
  let main_v3 : IVec S73728x1024 1 := cmpf .ole main_v1 main_v2
  main_v3
-- ==== Kernel.lean ====
abbrev S73728x1024 : Shape := ⟨2, ![73728, 1024]⟩
abbrev S1x1024 : Shape := ⟨2, ![1, 1024]⟩
abbrev S32x73728 : Shape := ⟨2, ![32, 73728]⟩
abbrev S1024x73728 : Shape := ⟨2, ![1024, 73728]⟩
abbrev S1024x2304 : Shape := ⟨2, ![1024, 2304]⟩
abbrev S512x1024 : Shape := ⟨2, ![512, 1024]⟩
abbrev S32x512 : Shape := ⟨2, ![32, 512]⟩
abbrev S1024x512 : Shape := ⟨2, ![1024, 512]⟩
abbrev S1024x128 : Shape := ⟨2, ![1024, 128]⟩
abbrev S16x1024 : Shape := ⟨2, ![16, 1024]⟩
abbrev S8x1024 : Shape := ⟨2, ![8, 1024]⟩
abbrev S128x1024 : Shape := ⟨2, ![128, 1024]⟩
abbrev S256x256 : Shape := ⟨2, ![256, 256]⟩
abbrev S32x1024 : Shape := ⟨2, ![32, 1024]⟩
abbrev S8x256 : Shape := ⟨2, ![8, 256]⟩
abbrev S32x8x256 : Shape := ⟨3, ![32, 8, 256]⟩
abbrev S8x32x256 : Shape := ⟨3, ![8, 32, 256]⟩
abbrev S32x256 : Shape := ⟨2, ![32, 256]⟩
abbrev S128x128 : Shape := ⟨2, ![128, 128]⟩
abbrev S4x128 : Shape := ⟨2, ![4, 128]⟩
abbrev S4x32x128 : Shape := ⟨3, ![4, 32, 128]⟩
abbrev S4x1x128 : Shape := ⟨3, ![4, 1, 128]⟩
abbrev S1024 : Shape := ⟨1, ![1024]⟩
abbrev S73728x32 : Shape := ⟨2, ![73728, 32]⟩

abbrev nBuf : Space → Nat
  | .hbm => 9
  | .vmem => 17
  | .smem => 0
  | _ => 0

abbrev bufTy : (tb : Table) → Fin (tcTables nBuf tb) → BufTy
  | .hbm, ⟨0, _⟩ => ⟨S73728x1024, .bf16⟩
  | .hbm, ⟨1, _⟩ => ⟨S73728x1024, .bf16⟩
  | .hbm, ⟨2, _⟩ => ⟨S1x1024, .f32⟩
  | .hbm, ⟨3, _⟩ => ⟨S73728x1024, .fp8e5m2⟩
  | .hbm, ⟨4, _⟩ => ⟨S32x73728, .f32⟩
  | .hbm, ⟨5, _⟩ => ⟨S1024x73728, .fp8e5m2⟩
  | .hbm, ⟨6, _⟩ => ⟨S1024x2304, .f32⟩
  | .hbm, ⟨7, _⟩ => ⟨S1024, .f32⟩
  | .hbm, ⟨8, _⟩ => ⟨S73728x32, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S512x1024, .fp8e5m2⟩
  | .local _ .vmem, ⟨6, _⟩ => ⟨S512x1024, .fp8e5m2⟩
  | .local _ .vmem, ⟨7, _⟩ => ⟨S32x512, .f32⟩
  | .local _ .vmem, ⟨8, _⟩ => ⟨S32x512, .f32⟩
  | .local _ .vmem, ⟨9, _⟩ => ⟨S1024x512, .fp8e5m2⟩
  | .local _ .vmem, ⟨10, _⟩ => ⟨S1024x512, .fp8e5m2⟩
  | .local _ .vmem, ⟨11, _⟩ => ⟨S1024x128, .f32⟩
  | .local _ .vmem, ⟨12, _⟩ => ⟨S1024x128, .f32⟩
  | .local _ .vmem, ⟨13, _⟩ => ⟨S512x1024, .f32⟩
  | .local _ .vmem, ⟨14, _⟩ => ⟨S16x1024, .f32⟩
  | .local _ .vmem, ⟨15, _⟩ => ⟨S8x1024, .f32⟩
  | .local _ .vmem, ⟨16, _⟩ => ⟨S128x1024, .f32⟩
  | _, _ => ⟨S73728x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [BitOps F]

abbrev grid0 : Pipeline.Grid := ⟨1, ![144], ![false]⟩

def k0_mult1 (i : grid0.Coords) : BitVec 32 :=
  let arg0 : BitVec 32 := BitVec.ofNat 32 (i 0).val
  let c8_i32_597 : BitVec 32 := 8#32
  let c0_i32_598 : BitVec 32 := 0#32
  let v1537 : BitVec 1 := Scalar.cmpi .eq c8_i32_597 c0_i32_598
  let c1_i32_599 : BitVec 32 := 1#32
  let v1538 : BitVec 32 := Scalar.select v1537 c1_i32_599 c8_i32_597
  let v1539 : BitVec 32 := Scalar.remsi arg0 v1538
  let c0_i32_601 : BitVec 32 := 0#32
  let v1541 : BitVec 1 := Scalar.cmpi .slt v1539 c0_i32_601
  let c0_i32_602 : BitVec 32 := 0#32
  let v1542 : BitVec 1 := Scalar.cmpi .slt v1538 c0_i32_602
  let v1543 : BitVec 1 := Scalar.xori v1541 v1542
  let c0_i32_600 : BitVec 32 := 0#32
  let v1540 : BitVec 1 := Scalar.cmpi .ne v1539 c0_i32_600
  let v1544 : BitVec 1 := Scalar.andi v1543 v1540
  let v1545 : BitVec 32 := Scalar.addi v1539 v1538
  let v1546 : BitVec 32 := Scalar.select v1544 v1545 v1539
  let c16_i32 : BitVec 32 := 16#32
  let v1547 : BitVec 32 := Scalar.muli v1546 c16_i32
  v1547
def k0_off1 (i : grid0.Coords) : Fin 2 → Nat :=
  let arg0 : BitVec 32 := BitVec.ofNat 32 (i 0).val
  let c8_i32_597 : BitVec 32 := 8#32
  let c0_i32_598 : BitVec 32 := 0#32
  let v1537 : BitVec 1 := Scalar.cmpi .eq c8_i32_597 c0_i32_598
  let c1_i32_599 : BitVec 32 := 1#32
  let v1538 : BitVec 32 := Scalar.select v1537 c1_i32_599 c8_i32_597
  let v1539 : BitVec 32 := Scalar.remsi arg0 v1538
  let c0_i32_601 : BitVec 32 := 0#32
  let v1541 : BitVec 1 := Scalar.cmpi .slt v1539 c0_i32_601
  let c0_i32_602 : BitVec 32 := 0#32
  let v1542 : BitVec 1 := Scalar.cmpi .slt v1538 c0_i32_602
  let v1543 : BitVec 1 := Scalar.xori v1541 v1542
  let c0_i32_600 : BitVec 32 := 0#32
  let v1540 : BitVec 1 := Scalar.cmpi .ne v1539 c0_i32_600
  let v1544 : BitVec 1 := Scalar.andi v1543 v1540
  let v1545 : BitVec 32 := Scalar.addi v1539 v1538
  let v1546 : BitVec 32 := Scalar.select v1544 v1545 v1539
  let c16_i32 : BitVec 32 := 16#32
  let v1547 : BitVec 32 := Scalar.muli v1546 c16_i32
  let v1548 : BitVec 32 := v1547
  let v1549 : Index := Scalar.indexCast v1548
  let c0_603 : Index := 0#32
  ![v1549.toNat, 0]
def k0_cond3 (i : grid0.Coords) : BitVec 1 :=
  let arg0 : BitVec 32 := BitVec.ofNat 32 (i 0).val
  let c143_i32 : BitVec 32 := 143#32
  let v1566 : BitVec 1 := Scalar.cmpi .eq arg0 c143_i32
  let v1567 : BitVec 32 := Scalar.extui v1566
  let c0_i32_611 : BitVec 32 := 0#32
  let v1568 : BitVec 1 := Scalar.cmpi .ne v1567 c0_i32_611
  v1568

def k0_cond2 (i : grid0.Coords) : BitVec 1 :=
  let arg0 : BitVec 32 := BitVec.ofNat 32 (i 0).val
  let c8_i32_604 : BitVec 32 := 8#32
  let c0_i32_605 : BitVec 32 := 0#32
  let v1553 : BitVec 1 := Scalar.cmpi .eq c8_i32_604 c0_i32_605
  let c1_i32_606 : BitVec 32 := 1#32
  let v1554 : BitVec 32 := Scalar.select v1553 c1_i32_606 c8_i32_604
  let v1555 : BitVec 32 := Scalar.remsi arg0 v1554
  let c0_i32_608 : BitVec 32 := 0#32
  let v1557 : BitVec 1 := Scalar.cmpi .slt v1555 c0_i32_608
  let c0_i32_609 : BitVec 32 := 0#32
  let v1558 : BitVec 1 := Scalar.cmpi .slt v1554 c0_i32_609
  let v1559 : BitVec 1 := Scalar.xori v1557 v1558
  let c0_i32_607 : BitVec 32 := 0#32
  let v1556 : BitVec 1 := Scalar.cmpi .ne v1555 c0_i32_607
  let v1560 : BitVec 1 := Scalar.andi v1559 v1556
  let v1561 : BitVec 32 := Scalar.addi v1555 v1554
  let v1562 : BitVec 32 := Scalar.select v1560 v1561 v1555
  let c7_i32 : BitVec 32 := 7#32
  let v1563 : BitVec 1 := Scalar.cmpi .eq v1562 c7_i32
  let v1564 : BitVec 32 := Scalar.extui v1563
  let c0_i32_610 : BitVec 32 := 0#32
  let v1565 : BitVec 1 := Scalar.cmpi .ne v1564 c0_i32_610
  v1565

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "gelu_k" => some ((Real.sqrt (2 * Real.pi⁻¹) : ℝ) : EReal)
  | "gelu_kc" => some (((Real.sqrt (2 * Real.pi⁻¹)) * (8943 / 200000) : ℝ) : EReal)
  | "half_k" => some (((1 / 2) * (Real.sqrt (2 * Real.pi⁻¹)) : ℝ) : EReal)
  | "inv_max" => some ((1 / 57344 : ℝ) : EReal)
  | "three_half_kc" => some ((((3 / 2) * (Real.sqrt (2 * Real.pi⁻¹))) * (8943 / 200000) : ℝ) : EReal)
  | _ => none
-- ==== ReferenceIdeal.lean ====
abbrev S73728x1024 : Shape := ⟨2, ![73728, 1024]⟩
abbrev S1024 : Shape := ⟨1, ![1024]⟩
abbrev S73728x32 : Shape := ⟨2, ![73728, 32]⟩
abbrev S1024x73728 : Shape := ⟨2, ![1024, 73728]⟩
abbrev S1024x2304 : Shape := ⟨2, ![1024, 2304]⟩
abbrev S73728x32x32 : Shape := ⟨3, ![73728, 32, 32]⟩
abbrev S73728x32x1 : Shape := ⟨3, ![73728, 32, 1]⟩
abbrev S2304x32x1024 : Shape := ⟨3, ![2304, 32, 1024]⟩
abbrev S2304x1024 : Shape := ⟨2, ![2304, 1024]⟩
abbrev S2304x1x1024 : Shape := ⟨3, ![2304, 1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S73728x1024, .bf16⟩
  | .hbm, ⟨1, _⟩ => ⟨S73728x1024, .bf16⟩
  | .hbm, ⟨2, _⟩ => ⟨S1024, .f32⟩
  | .hbm, ⟨3, _⟩ => ⟨S73728x1024, .fp8e5m2⟩
  | .hbm, ⟨4, _⟩ => ⟨S73728x32, .f32⟩
  | .hbm, ⟨5, _⟩ => ⟨S1024x73728, .fp8e5m2⟩
  | .hbm, ⟨6, _⟩ => ⟨S1024x2304, .f32⟩
  | .local _ .vmem, ⟨0, _⟩ => ⟨S73728x1024, .bf16⟩
  | .local _ .vmem, ⟨1, _⟩ => ⟨S73728x1024, .bf16⟩
  | .local _ .vmem, ⟨2, _⟩ => ⟨S1024, .f32⟩
  | .local _ .vmem, ⟨3, _⟩ => ⟨S73728x1024, .fp8e5m2⟩
  | .local _ .vmem, ⟨4, _⟩ => ⟨S73728x32, .f32⟩
  | .local _ .vmem, ⟨5, _⟩ => ⟨S1024x73728, .fp8e5m2⟩
  | .local _ .vmem, ⟨6, _⟩ => ⟨S1024x2304, .f32⟩
  | _, _ => ⟨S73728x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "gelu_c" => some ((8943 / 200000 : ℝ) : EReal)
  | "gelu_k" => some ((Real.sqrt (2 * Real.pi⁻¹) : ℝ) : EReal)
  | "inv_max" => some ((1 / 57344 : ℝ) : EReal)
  | "log_2" => some ((Real.log 2 : ℝ) : EReal)
  | "three_c" => some ((26829 / 200000 : ℝ) : EReal)
  | _ => none

abbrev grid0 : Pipeline.Grid := .none

abbrev stage0_0 : Fin 1 → Memref sig .tc .vmem S73728x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S73728x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S73728x1024 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S73728x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x73728 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x2304 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelFrame.lean ====
module

public import proofs.«01_k».proof.Proof.Gen.Kernel.Skeleton
public import proofs.«01_k».proof.Proof.Gen.Kernel.Frame
public import Idealize.ShloMosaic.Lib.Claim

/-! The frame of the kernel at the machine's numbers: it ends, its arguments are as they were, and every
    semaphore counter is zero. Nothing is said of what the outputs and the scratch buffers hold, so one
    run of the body serves every grid point, whichever way its conditionals go. -/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The offset of the scale rows -/

/-- The sixteen rows that a point writes into the column-scale scratch start at sixteen times the point's place
    in its run of eight. -/
theorem off1_eq (i : grid0.Coords) : k0_off1 i = ![16 * ((i 0).val % 8), 0] := by
  have h : (i 0).val < 144 := (i 0).isLt
  unfold k0_off1
  generalize (i 0).val = n at h
  have key : ∀ n : Fin 144, (Scalar.muli (Scalar.select (Scalar.andi (Scalar.xori (Scalar.cmpi .slt (Scalar.remsi (BitVec.ofNat 32 n.val) (8#32)) 0#32) (Scalar.cmpi .slt 8#32 0#32)) (Scalar.cmpi .ne (Scalar.remsi (BitVec.ofNat 32 n.val) (8#32)) 0#32)) (Scalar.addi (Scalar.remsi (BitVec.ofNat 32 n.val) (8#32)) 8#32) (Scalar.remsi (BitVec.ofNat 32 n.val) (8#32))) 16#32).toNat = 16 * (n.val % 8) := by decide +kernel
  funext a
  fin_cases a
  · exact key ⟨n, h⟩
  · rfl

instance (i : grid0.Coords) : ClosedOff (k0_off1 i) := ⟨![16 * ((i 0).val % 8), 0], off1_eq i⟩

/-! ## The body on any buffers -/

set_option maxHeartbeats 1600000 in
/-- The body runs from its inputs and any contents of every other buffer, and leaves the inputs as they were. -/
theorem sound_kernel (c : Dev nD) (E : Set ℕ) (i : grid0.Coords) (arg1 : Memref sig .tc .vmem S512x1024 .bf16) (harg1 : arg1.IsWhole) (arg2 : Memref sig .tc .vmem S512x1024 .bf16) (harg2 : arg2.IsWhole) (arg3 : Memref sig .tc .vmem S1x1024 .f32) (harg3 : arg3.IsWhole) (arg4 : Memref sig .tc .vmem S512x1024 .fp8e5m2) (harg4 : arg4.IsWhole) (arg5 : Memref sig .tc .vmem S32x512 .f32) (harg5 : arg5.IsWhole) (arg6 : Memref sig .tc .vmem S1024x512 .fp8e5m2) (harg6 : arg6.IsWhole) (arg7 : Memref sig .tc .vmem S1024x128 .f32) (harg7 : arg7.IsWhole) (arg8 : Memref sig .tc .vmem S512x1024 .f32) (harg8 : arg8.IsWhole) (arg9 : Memref sig .tc .vmem S16x1024 .f32) (harg9 : arg9.IsWhole) (arg10 : Memref sig .tc .vmem S8x1024 .f32) (harg10 : arg10.IsWhole) (arg11 : Memref sig .tc .vmem S128x1024 .f32) (harg11 : arg11.IsWhole)
    (x0 x1 : Vec F S512x1024 .bf16) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_gelu_bwd_quant i arg1 harg1 arg2 harg2 arg3 harg3 arg4 harg4 arg5 harg5 arg6 harg6 arg7 harg7 arg8 harg8 arg9 harg9 arg10 harg10 arg11 harg11) K := by
  simp only [cc0_gelu_bwd_quant_eq_skeleton]; unfold cc0_gelu_bwd_quant_skel
  simp only [k0_part38_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  obtain rfl := harg1.eq_unread hf1; obtain rfl := harg2.eq_unread hf2
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

/-! ## What the lines after the region write -/

/-- The buffers the lines after the region WRITE, as references: results computed from contents the run does not name
    (an operand the body wrote by its own DMA, or a forgotten output), so nothing is stated of them either. -/
def T0 : Finset (Ref sig .tc) := {main_v1, main_v2}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-! ## The staging buffers and the scratch -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Each window's current staging memref at point `t`, spelled as the pipeline passes it (`bodyAt0`), and its wholeness. -/
abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .fp8e5m2 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x512 .fp8e5m2 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S512x1024 .f32 := Memref.whole cc0_scratch0
abbrev scM0_1 : Memref sig .tc .vmem S16x1024 .f32 := Memref.whole cc0_scratch1
abbrev scM0_2 : Memref sig .tc .vmem S8x1024 .f32 := Memref.whole cc0_scratch2
abbrev scM0_3 : Memref sig .tc .vmem S128x1024 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## The pipeline's proof data: the outputs forgotten -/

/-- The output windows, of which nothing is named. -/
def forgets0 : Fin 7 → Bool := fun w => w.val == 2 || w.val == 3 || w.val == 4 || w.val == 5 || w.val == 6

/-- The arrays as the region finds them; each input's buffer at its block after every point; the outputs unnamed; the
    invariant every scratch buffer at some contents; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA0_eq,
    show (dats m 0 c).leavesExact 0 t = owns (c : Thread nD τ) (ms0_0 t) fullShare ((dats m 0 c).after 0 t) from by
      unfold Dat.leavesExact; rw [liveAt0_0 t], after0_0,
    show (dats m 0 c).leavesExact 1 t = owns (c : Thread nD τ) (ms0_1 t) fullShare ((dats m 0 c).after 1 t) from by
      unfold Dat.leavesExact; rw [liveAt0_1 t], after0_1]
  iintro ⟨⟨⟨HS0, HS1, HS2, HS3⟩, Hg⟩, Ho, ⟨%d0, H0⟩, ⟨%d1, H1⟩, H2, H3, H4, H5, H6⟩
  iapply (sound_kernel c Set.univ (grid0.coords t) _ _ _ _ _ _ _ _ _ _ _ _ _ _ _ _ _ _ _ _ _ _ (iblk m c 0 t) (iblk m c 1 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iintro ⟨H0, H1, H2, H3, H4, H5, H6, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

-- `θ_run_frame_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := fun _ => .rfl) (hout := fun _ => .rfl)

/-- At the compiled mesh, for any values, from any memory with zero counters: every weakly fair execution of @main on the
    TensorCores terminates, and every final state has every INPUT array of the pipeline unchanged, nothing stated of the
    FORGOTTEN outputs (windows 2, 3, 4, 5, 6) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)
/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Pipeline.RDat.FramePostR.arr_in h c 0 rfl).trans ((A_eq m c 0).trans (V_main_arg0 m c)),
      (Pipeline.RDat.FramePostR.arr_in h c 1 rfl).trans ((A_eq m c 1).trans (V_main_arg1 m c))⟩) (run_main m ρ)

/-- The frame claim, at any numbers. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel.Gen

end
-- ==== Proof.KernelIdealFrame.lean ====
module

public import proofs.«01_k».proof.Proof.Gen.KernelIdeal.Skeleton
public import proofs.«01_k».proof.Proof.Gen.KernelIdeal.Frame
public import Idealize.ShloMosaic.Lib.Claim

/-! The frame of the kernel at the machine's numbers: it ends, its arguments are as they were, and every
    semaphore counter is zero. Nothing is said of what the outputs and the scratch buffers hold, so one
    run of the body serves every grid point, whichever way its conditionals go. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The offset of the scale rows -/

/-- The sixteen rows that a point writes into the column-scale scratch start at sixteen times the point's place
    in its run of eight. -/
theorem off1_eq (i : grid0.Coords) : k0_off1 i = ![16 * ((i 0).val % 8), 0] := by
  have h : (i 0).val < 144 := (i 0).isLt
  unfold k0_off1
  generalize (i 0).val = n at h
  have key : ∀ n : Fin 144, (Scalar.muli (Scalar.select (Scalar.andi (Scalar.xori (Scalar.cmpi .slt (Scalar.remsi (BitVec.ofNat 32 n.val) (8#32)) 0#32) (Scalar.cmpi .slt 8#32 0#32)) (Scalar.cmpi .ne (Scalar.remsi (BitVec.ofNat 32 n.val) (8#32)) 0#32)) (Scalar.addi (Scalar.remsi (BitVec.ofNat 32 n.val) (8#32)) 8#32) (Scalar.remsi (BitVec.ofNat 32 n.val) (8#32))) 16#32).toNat = 16 * (n.val % 8) := by decide +kernel
  funext a
  fin_cases a
  · exact key ⟨n, h⟩
  · rfl

instance (i : grid0.Coords) : ClosedOff (k0_off1 i) := ⟨![16 * ((i 0).val % 8), 0], off1_eq i⟩

/-! ## The body on any buffers -/

set_option maxHeartbeats 1600000 in
/-- The body runs from its inputs and any contents of every other buffer, and leaves the inputs as they were. -/
theorem sound_kernel (c : Dev nD) (E : Set ℕ) (i : grid0.Coords) (arg1 : Memref sig .tc .vmem S512x1024 .bf16) (harg1 : arg1.IsWhole) (arg2 : Memref sig .tc .vmem S512x1024 .bf16) (harg2 : arg2.IsWhole) (arg3 : Memref sig .tc .vmem S1x1024 .f32) (harg3 : arg3.IsWhole) (arg4 : Memref sig .tc .vmem S512x1024 .fp8e5m2) (harg4 : arg4.IsWhole) (arg5 : Memref sig .tc .vmem S32x512 .f32) (harg5 : arg5.IsWhole) (arg6 : Memref sig .tc .vmem S1024x512 .fp8e5m2) (harg6 : arg6.IsWhole) (arg7 : Memref sig .tc .vmem S1024x128 .f32) (harg7 : arg7.IsWhole) (arg8 : Memref sig .tc .vmem S512x1024 .f32) (harg8 : arg8.IsWhole) (arg9 : Memref sig .tc .vmem S16x1024 .f32) (harg9 : arg9.IsWhole) (arg10 : Memref sig .tc .vmem S8x1024 .f32) (harg10 : arg10.IsWhole) (arg11 : Memref sig .tc .vmem S128x1024 .f32) (harg11 : arg11.IsWhole)
    (x0 x1 : Vec F S512x1024 .bf16) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_gelu_bwd_quant i arg1 harg1 arg2 harg2 arg3 harg3 arg4 harg4 arg5 harg5 arg6 harg6 arg7 harg7 arg8 harg8 arg9 harg9 arg10 harg10 arg11 harg11) K := by
  simp only [cc0_gelu_bwd_quant_eq_skeleton]; unfold cc0_gelu_bwd_quant_skel
  simp only [k0_part38_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  obtain rfl := harg1.eq_unread hf1; obtain rfl := harg2.eq_unread hf2
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

/-! ## What the lines after the region write -/

/-- The buffers the lines after the region WRITE, as references: results computed from contents the run does not name
    (an operand the body wrote by its own DMA, or a forgotten output), so nothing is stated of them either. -/
def T0 : Finset (Ref sig .tc) := {main_v1, main_v2}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-! ## The staging buffers and the scratch -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Each window's current staging memref at point `t`, spelled as the pipeline passes it (`bodyAt0`), and its wholeness. -/
abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .fp8e5m2 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x512 .fp8e5m2 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S512x1024 .f32 := Memref.whole cc0_scratch0
abbrev scM0_1 : Memref sig .tc .vmem S16x1024 .f32 := Memref.whole cc0_scratch1
abbrev scM0_2 : Memref sig .tc .vmem S8x1024 .f32 := Memref.whole cc0_scratch2
abbrev scM0_3 : Memref sig .tc .vmem S128x1024 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## The pipeline's proof data: the outputs forgotten -/

/-- The output windows, of which nothing is named. -/
def forgets0 : Fin 7 → Bool := fun w => w.val == 2 || w.val == 3 || w.val == 4 || w.val == 5 || w.val == 6

/-- The arrays as the region finds them; each input's buffer at its block after every point; the outputs unnamed; the
    invariant every scratch buffer at some contents; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA0_eq,
    show (dats m 0 c).leavesExact 0 t = owns (c : Thread nD τ) (ms0_0 t) fullShare ((dats m 0 c).after 0 t) from by
      unfold Dat.leavesExact; rw [liveAt0_0 t], after0_0,
    show (dats m 0 c).leavesExact 1 t = owns (c : Thread nD τ) (ms0_1 t) fullShare ((dats m 0 c).after 1 t) from by
      unfold Dat.leavesExact; rw [liveAt0_1 t], after0_1]
  iintro ⟨⟨⟨HS0, HS1, HS2, HS3⟩, Hg⟩, Ho, ⟨%d0, H0⟩, ⟨%d1, H1⟩, H2, H3, H4, H5, H6⟩
  iapply (sound_kernel c Set.univ (grid0.coords t) _ _ _ _ _ _ _ _ _ _ _ _ _ _ _ _ _ _ _ _ _ _ (iblk m c 0 t) (iblk m c 1 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iintro ⟨H0, H1, H2, H3, H4, H5, H6, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

-- `θ_run_frame_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := fun _ => .rfl) (hout := fun _ => .rfl)

/-- At the compiled mesh, for any values, from any memory with zero counters: every weakly fair execution of @main on the
    TensorCores terminates, and every final state has every INPUT array of the pipeline unchanged, nothing stated of the
    FORGOTTEN outputs (windows 2, 3, 4, 5, 6) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)
/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Pipeline.RDat.FramePostR.arr_in h c 0 rfl).trans ((A_eq m c 0).trans (V_main_arg0 m c)),
      (Pipeline.RDat.FramePostR.arr_in h c 1 rfl).trans ((A_eq m c 1).trans (V_main_arg1 m c))⟩) (run_main m ρ)

/-- The frame claim, at any numbers. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Gen

end
-- ==== Proof.Preserves.lean ====
module

public import proofs.«01_k».proof.Defs
public import Idealize.ShloMosaic.Lib.Claim

/-! The idealization's ledger: every named constant has the value that the certificate's table gives to its name,
    and the masked word of a single is its rounding through `bf16`. -/

@[expose] public section

namespace Cert.Proof

open Idealize.ShloMosaic

theorem preserves : Cert.preserves_Kernel_KernelIdeal :=
  ⟨IdealRules.named_const.statement _ _ _ _ _ rfl, IdealRules.named_const.statement _ _ _ _ _ rfl,
   IdealRules.named_const.statement _ _ _ _ _ rfl, IdealRules.named_const.statement _ _ _ _ _ rfl,
   IdealRules.bf16_pack.statement _, IdealRules.named_const.statement _ _ _ _ _ rfl⟩

end Cert.Proof

end
-- ==== Proof.Spec.lean ====
module

public import Idealize.ShloMosaic.Lib.Claim
public import Idealize.ShloMosaic.PureOps.Ideal
public import Idealize.ShloMosaic.Lib.Pointwise

/-! The mathematics of the problem over the extended reals: the gradient of the activation, the scale of a group of 32 values,
and the five results as functions of the gradient's rows and columns. The kernel's own forms of the gradient and of the scale
stand beside them; `Proof.Scalar` proves them equal. -/

@[expose] public section

noncomputable section

namespace Cert.Spec

open Idealize.ShloMosaic

/-! ## The kernel's forms -/

/-- The gradient as the kernel computes it, with the constants multiplied out. -/
def kD (x g : EReal) : EReal :=
  (1 + Ideal.tanh (x * (((Real.sqrt (2 * Real.pi⁻¹) : ℝ) : EReal)
      + (((Real.sqrt (2 * Real.pi⁻¹)) * (8943 / 200000) : ℝ) : EReal) * (x * x))))
    * (Ideal.ofBits .f32 0x3F000000#32
      + (1 - Ideal.tanh (x * (((Real.sqrt (2 * Real.pi⁻¹) : ℝ) : EReal)
          + (((Real.sqrt (2 * Real.pi⁻¹)) * (8943 / 200000) : ℝ) : EReal) * (x * x))))
        * (x * ((((1 / 2) * (Real.sqrt (2 * Real.pi⁻¹)) : ℝ) : EReal)
          + ((((3 / 2) * (Real.sqrt (2 * Real.pi⁻¹))) * (8943 / 200000) : ℝ) : EReal) * (x * x)))) * g

/-- One step of the kernel's search for the exponent: the bit `c` is kept where `f` reaches the number it makes. -/
def kStep (f : EReal) (c e : BitVec 32) : BitVec 32 := if Ideal.ofBits .f32 (e + c) ≤ f then e + c else e

/-- The exponent field of `f`, found from its greatest bit down. -/
def kField (f : EReal) : BitVec 32 :=
  kStep f 8388608#32 (kStep f 16777216#32 (kStep f 33554432#32 (kStep f 67108864#32
    (kStep f 134217728#32 (kStep f 268435456#32 (kStep f 536870912#32 (kStep f 1073741824#32 0#32)))))))

/-- The kernel's ratio of a group's greatest magnitude to the largest code. -/
def kF (a : EReal) : EReal := a * ((1 / 57344 : ℝ) : EReal)

/-- The kernel's scale: one where the exponent field is zero or the greatest, and two to the exponent plus one elsewhere. -/
def kScale (a : EReal) : EReal :=
  Ideal.ofBits .f32 (if kField (kF a) = 0#32 ∨ kField (kF a) = 2139095040#32 then 1065353216#32 else kField (kF a) + 8388608#32)

/-- The inverse of the kernel's scale. -/
def kInv (a : EReal) : EReal :=
  Ideal.ofBits .f32 (if kField (kF a) = 0#32 ∨ kField (kF a) = 2139095040#32 then 1065353216#32 else 2122317824#32 - kField (kF a))

/-! ## The problem's forms -/

/-- The gradient as the problem states it. -/
def rD (x g : EReal) : EReal :=
  g * (Ideal.ofBits .f32 0x3F000000#32 * (1 + Ideal.tanh (((Real.sqrt (2 * Real.pi⁻¹) : ℝ) : EReal)
        * (x + ((8943 / 200000 : ℝ) : EReal) * x * (x * x))))
    + Ideal.ofBits .f32 0x3F000000#32 * x
      * (1 - Ideal.tanh (((Real.sqrt (2 * Real.pi⁻¹) : ℝ) : EReal) * (x + ((8943 / 200000 : ℝ) : EReal) * x * (x * x)))
          * Ideal.tanh (((Real.sqrt (2 * Real.pi⁻¹) : ℝ) : EReal) * (x + ((8943 / 200000 : ℝ) : EReal) * x * (x * x))))
      * ((Real.sqrt (2 * Real.pi⁻¹) : ℝ) : EReal) * (1 + ((26829 / 200000 : ℝ) : EReal) * (x * x)))

/-- The exponent of the scale of a group whose greatest magnitude over the largest code is `f`: the least integer `e` with
`f < 2 ^ e`, and zero where `f` is below the least normal number. -/
def rExp (f : EReal) : EReal :=
  if f < Ideal.ofBits .f32 0x00800000#32 then 0
  else Ideal.liftRound Int.floor (Ideal.div (Ideal.log f) ((Real.log 2 : ℝ) : EReal)) + 1

/-- The scale of a group whose greatest magnitude is `a`. -/
def rScale (a : EReal) : EReal := Ideal.exp2 (rExp (kF a))

/-- The inverse scale of a group whose greatest magnitude is `a`. -/
def rInv (a : EReal) : EReal := Ideal.exp2 (0 - rExp (kF a))

/-! ## Groups and the results -/

/-- A value clipped to the range of the codes. -/
def clip (v : EReal) : EReal := min (Ideal.ofBits .f32 0x47600000#32) (max (Ideal.ofBits .f32 0xC7600000#32) v)

/-- The greatest magnitude of 32 values. -/
def gmax (f : Fin 32 → EReal) : EReal :=
  Finset.univ.fold max (Ideal.ofBits .f32 0xFF800000#32) (fun k => max (f k) (-f k))

/-- The greatest magnitude of the `g`-th group of 32 columns of row `r`. -/
def rowMax (D : ℕ → ℕ → EReal) (r g : ℕ) : EReal := gmax fun k => D r (32 * g + k.val)

/-- The greatest magnitude of the `g`-th group of 32 rows of column `c`. -/
def colMax (D : ℕ → ℕ → EReal) (g c : ℕ) : EReal := gmax fun k => D (32 * g + k.val) c

end Cert.Spec

end
-- ==== Proof.KernelTiles.lean ====
module

public import proofs.«01_k».proof.Proof.Gen.KernelIdeal.Skeleton
public import proofs.«01_k».proof.Proof.Gen.KernelIdeal.Frame
public import Idealize.ShloMosaic.Lib.Claim

/-! What the kernel's body writes, as functions of the tiles it reads. -/

@[expose] public section

noncomputable section

namespace Cert.KernelIdeal.Val

open Cert.KernelIdeal.Gen
open Idealize.ShloMosaic Idealize.SL.Sem

variable {F : FTy → Type} [FloatOps F] [Named F]

/-! ## One tile -/

/-- The gradient of a 256 × 256 tile. -/
def tileV (x g : FVec F S256x256 .bf16) : FVec F S256x256 .f32 :=
  have xf : FVec F S256x256 .f32 := extf .f32 x bitsLt_bf16_f32
  have gf : FVec F S256x256 .f32 := extf .f32 g bitsLt_bf16_f32
  have x2 : FVec F S256x256 .f32 := mulf xf xf
  have t : FVec F S256x256 .f32 := tanh (mulf xf (addf (broadcast S256x256 (Named.named κ "gelu_k" 0x3F4C422A#32))
    (mulf (broadcast S256x256 (Named.named κ "gelu_kc" 0x3D122279#32)) x2)))
  have w : FVec F S256x256 .f32 := mulf xf (addf (broadcast S256x256 (Named.named κ "half_k" 0x3ECC422A#32))
    (mulf (broadcast S256x256 (Named.named κ "three_half_kc" 0x3D5B33B6#32)) x2))
  mulf (mulf (addf (broadcast S256x256 (Scalar.ofBits .f32 0x3F800000#32)) t)
    (addf (broadcast S256x256 (Scalar.ofBits .f32 0x3F000000#32))
      (mulf (subf (broadcast S256x256 (Scalar.ofBits .f32 0x3F800000#32)) t) w))) gf

/-- The magnitudes of a tile. -/
def tileM (v : FVec F S256x256 .f32) : FVec F S256x256 .f32 := absf (extf .f32 (truncf .bf16 v))

/-- The greatest magnitude of each group of 32 rows, column by column. -/
def tileCmax (v : FVec F S256x256 .f32) : FVec F S8x256 .f32 :=
  shapeCast S8x256 (multiReduction .maximumf [1] S8x256 (shapeCast S8x32x256 (tileM v) shapeCasts_S256x256_S8x32x256)
    0xFF800000#32 reduces_S8x32x256_S8x256 (.inl rfl) rfl) shapeCasts_S8x256_S8x256

/-- The matrix that brings the columns of a tile to the order in which the groups' maxima are taken. -/
def permV : FVec F S256x256 .bf16 := k0_pay9 (iota .tc S256x256 32 [1] iota_S256x256_d1_w32) k0_pay5 k0_pay6 k0_pay7 k0_pay8

/-- The greatest magnitude of each group of 32 columns, row by row, transposed. -/
def tileAmax (v : FVec F S256x256 .f32) : FVec F S8x256 .f32 :=
  multiReduction .maximumf [0] S8x256
    (shapeCast S32x8x256 (matmul dot_S256x256_S256x256_S256x256_1_1_0_0_n_n none permV (truncf .bf16 (tileM v) bitsLt_bf16_f32)
      (constant S256x256 .f32 0x00000000#32)) shapeCasts_S256x256_S32x8x256)
    0xFF800000#32 reduces_S32x8x256_S8x256 (.inl rfl) rfl

/-- The bias row sums with a tile's rows added, eight rows apart. -/
def tileBias (b : FVec F S8x256 .f32) (v : FVec F S256x256 .f32) : FVec F S8x256 .f32 :=
  shapeCast S8x256 (addf b (multiReduction .add [0] S8x256 (shapeCast S32x8x256 v shapeCasts_S256x256_S32x8x256)
    0x00000000#32 reduces_S32x8x256_S8x256 (.inl rfl) rfl)) shapeCasts_S8x256_S8x256

/-! ## Scales -/

/-- One step of the exponent ladder: the bit `c` is kept where `f` reaches the number it makes. -/
def expStep {s : Shape} (f : FVec F s .f32) (c : BitVec 32) (e : IVec s 32) : IVec s 32 :=
  select (cmpf .oge f (bitcastToFloat .f32 (addi e (broadcast s c)))) (addi e (broadcast s c)) e

/-- The exponent field of `f`. -/
def expField {s : Shape} (f : FVec F s .f32) : IVec s 32 :=
  expStep f 8388608#32 (expStep f 16777216#32 (expStep f 33554432#32 (expStep f 67108864#32
    (expStep f 134217728#32 (expStep f 268435456#32 (expStep f 536870912#32
      (expStep f 1073741824#32 (broadcast s 0#32))))))))

/-- Where the scale is one: no exponent, or the greatest. -/
def plainF {s : Shape} (e : IVec s 32) : IVec s 1 :=
  ori (cmpi .eq e (broadcast s 0#32)) (cmpi .eq e (broadcast s 2139095040#32))

/-- The greatest magnitude over the largest code. -/
def ratioF {s : Shape} (a : FVec F s .f32) : FVec F s .f32 := mulf a (broadcast s (Named.named κ "inv_max" 0x37924925#32))

/-- The scale of a group whose greatest magnitude is `a`. -/
def scaleF {s : Shape} (a : FVec F s .f32) : FVec F s .f32 :=
  bitcastToFloat .f32 (select (plainF (expField (ratioF a))) (broadcast s 1065353216#32)
    (addi (expField (ratioF a)) (broadcast s 8388608#32)))

/-- The inverse of that scale. -/
def invF {s : Shape} (a : FVec F s .f32) : FVec F s .f32 :=
  bitcastToFloat .f32 (select (plainF (expField (ratioF a))) (broadcast s 1065353216#32)
    (subi (broadcast s 2122317824#32) (expField (ratioF a))))

/-! ## Codes -/

/-- The inverse scales of the rows' groups, four tiles side by side. -/
def rowInv (i0 i1 i2 i3 : FVec F S8x256 .f32) : FVec F S32x256 .bf16 :=
  truncf .bf16 (concatenate S32x256 0 [⟨S8x256, i0⟩, ⟨S8x256, i1⟩, ⟨S8x256, i2⟩, ⟨S8x256, i3⟩]
    concatenates_S8x256_S8x256_S8x256_S8x256_S32x256_d0) bitsLt_bf16_f32

theorem slicesE (q : Fin 4) : S32x1024.Slices ![0, 256 * q.val] S32x256 := by
  fin_cases q
  exacts [slices_S32x1024_o0_0_S32x256, slices_S32x1024_o0_256_S32x256, slices_S32x1024_o0_512_S32x256, slices_S32x1024_o0_768_S32x256]

/-- The codes of a tile along the rows. -/
def tileCodes (e : FVec F S32x256 .bf16) (q : Fin 4) (v : FVec F S256x256 .f32) : FVec F S256x256 .fp8e5m2 :=
  truncf .fp8e5m2 (minimumf (broadcast S256x256 (Scalar.ofBits .f32 0x47600000#32))
    (maximumf (broadcast S256x256 (Scalar.ofBits .f32 0xC7600000#32))
      (mulf v (matmul dot_S32x256_S32x256_S256x256_0_0_1_1_n_n none e
        (extractStridedSlice S32x256 ![0, 256 * q.val] k0_pay10 (slicesE q)) (constant S256x256 .f32 0x00000000#32)))))
    bitsLt_fp8e5m2_f32

theorem slicesC (r : Fin 4) (q : Fin 8) : S16x1024.Slices ![4 * r.val, 128 * q.val] S4x128 :=
  ⟨rfl, fun a => by fin_cases a <;> fin_cases r <;> fin_cases q <;> decide⟩

/-- The codes of a 128 × 128 tile along the columns, transposed. -/
def colCodes (v : FVec F S128x128 .f32) (ci : FVec F S4x128 .f32) : FVec F S128x128 .fp8e5m2 :=
  truncf .fp8e5m2 (transpose S128x128 [1, 0]
    (minimumf (broadcast S128x128 (Scalar.ofBits .f32 0x47600000#32))
      (maximumf (broadcast S128x128 (Scalar.ofBits .f32 0xC7600000#32))
        (shapeCast S128x128 (mulf (shapeCast S4x32x128 v shapeCasts_S128x128_S4x32x128)
          (broadcastTo S4x32x128 (shapeCast S4x1x128 ci shapeCasts_S4x128_S4x1x128) broadcasts_S4x1x128_S4x32x128))
          shapeCasts_S4x32x128_S128x128))) transposes_S128x128_p1_0_S128x128) bitsLt_fp8e5m2_f32

/-! ## The pieces each buffer is written in -/

theorem inbT (r : Fin 2) (q : Fin 4) : ∀ a, (![256 * r.val, 256 * q.val] : Fin 2 → ℕ) a + S256x256.size a ≤ S512x1024.size a := by
  fin_cases r <;> fin_cases q <;> decide
theorem inbM (r : Fin 2) (q : Fin 4) : ∀ a, (![8 * r.val, 256 * q.val] : Fin 2 → ℕ) a + S8x256.size a ≤ S16x1024.size a := by
  fin_cases r <;> fin_cases q <;> decide
theorem inbS (r : Fin 2) (q : Fin 4) : ∀ a, (![8 * q.val, 256 * r.val] : Fin 2 → ℕ) a + S8x256.size a ≤ S32x512.size a := by
  fin_cases r <;> fin_cases q <;> decide
theorem inbB (q : Fin 4) : ∀ a, (![0, 256 * q.val] : Fin 2 → ℕ) a + S8x256.size a ≤ S8x1024.size a := by
  fin_cases q <;> decide
theorem inbL (r : Fin 4) (q : Fin 8) : ∀ a, (![128 * r.val, 128 * q.val] : Fin 2 → ℕ) a + S128x128.size a ≤ S512x1024.size a := by
  fin_cases r <;> fin_cases q <;> decide
theorem inbC (r : Fin 4) (q : Fin 8) : ∀ a, (![128 * q.val, 128 * r.val] : Fin 2 → ℕ) a + S128x128.size a ≤ S1024x512.size a := by
  fin_cases r <;> fin_cases q <;> decide

abbrev rT (r : Fin 2) (q : Fin 4) : Rect S512x1024 := Rect.unit ![256 * r.val, 256 * q.val] S256x256.size (inbT r q)
abbrev rM (r : Fin 2) (q : Fin 4) : Rect S16x1024 := Rect.unit ![8 * r.val, 256 * q.val] S8x256.size (inbM r q)
abbrev rS (r : Fin 2) (q : Fin 4) : Rect S32x512 := Rect.unit ![8 * q.val, 256 * r.val] S8x256.size (inbS r q)
abbrev rB (q : Fin 4) : Rect S8x1024 := Rect.unit ![0, 256 * q.val] S8x256.size (inbB q)
abbrev rL (r : Fin 4) (q : Fin 8) : Rect S512x1024 := Rect.unit ![128 * r.val, 128 * q.val] S128x128.size (inbL r q)
abbrev rC (r : Fin 4) (q : Fin 8) : Rect S1024x512 := Rect.unit ![128 * q.val, 128 * r.val] S128x128.size (inbC r q)

section
variable (V : Fin 2 → Fin 4 → FVec F S256x256 .f32)

/-- The gradient's pieces. -/
def p8 (r : Fin 2) (q : Fin 4) : View.Piece (Elt F) S512x1024 .f32 := ⟨rT r q, shapeCast S256x256 (V r q) shapeCasts_S256x256_S256x256⟩
def L8a : List (View.Piece (Elt F) S512x1024 .f32) := [p8 V 0 3, p8 V 0 2, p8 V 0 1, p8 V 0 0]
def L8 : List (View.Piece (Elt F) S512x1024 .f32) := p8 V 1 3 :: p8 V 1 2 :: p8 V 1 1 :: p8 V 1 0 :: L8a V

/-- The column maxima's pieces. -/
def p9 (r : Fin 2) (q : Fin 4) : View.Piece (Elt F) S16x1024 .f32 := ⟨rM r q, tileCmax (V r q)⟩
def L9 : List (View.Piece (Elt F) S16x1024 .f32) :=
  [p9 V 1 3, p9 V 1 2, p9 V 1 1, p9 V 1 0, p9 V 0 3, p9 V 0 2, p9 V 0 1, p9 V 0 0]

/-- The row scales' pieces. -/
def p5 (r : Fin 2) (q : Fin 4) : View.Piece (Elt F) S32x512 .f32 := ⟨rS r q, scaleF (tileAmax (V r q))⟩
def L5 : List (View.Piece (Elt F) S32x512 .f32) :=
  [p5 V 1 3, p5 V 1 2, p5 V 1 1, p5 V 1 0, p5 V 0 3, p5 V 0 2, p5 V 0 1, p5 V 0 0]

/-- The inverse scales of a half's rows. -/
def rowInvs (r : Fin 2) : FVec F S32x256 .bf16 :=
  rowInv (invF (tileAmax (V r 0))) (invF (tileAmax (V r 1))) (invF (tileAmax (V r 2))) (invF (tileAmax (V r 3)))

/-- The row codes' pieces, of the gradient as it is read back. -/
def p4 (W : Fin 2 → Fin 4 → FVec F S256x256 .f32) (r : Fin 2) (q : Fin 4) : View.Piece (Elt F) S512x1024 .fp8e5m2 :=
  ⟨rT r q, tileCodes (rowInvs V r) q (W r q)⟩
def L4 (W : Fin 2 → Fin 4 → FVec F S256x256 .f32) : List (View.Piece (Elt F) S512x1024 .fp8e5m2) :=
  [p4 V W 1 3, p4 V W 1 2, p4 V W 1 1, p4 V W 1 0, p4 V W 0 3, p4 V W 0 2, p4 V W 0 1, p4 V W 0 0]
end

/-- The column codes' pieces, of the gradient and the columns' inverse scales as they are read back. -/
def p6 (W : Fin 4 → Fin 8 → FVec F S128x128 .f32) (ci : FVec F S16x1024 .f32) (r : Fin 4) (q : Fin 8) : View.Piece (Elt F) S1024x512 .fp8e5m2 :=
  ⟨rC r q, colCodes (W r q) (extractStridedSlice S4x128 ![4 * r.val, 128 * q.val] ci (slicesC r q))⟩
def L6 (W : Fin 4 → Fin 8 → FVec F S128x128 .f32) (ci : FVec F S16x1024 .f32) : List (View.Piece (Elt F) S1024x512 .fp8e5m2) :=
  [p6 W ci 3 7, p6 W ci 3 6, p6 W ci 3 5, p6 W ci 3 4, p6 W ci 3 3, p6 W ci 3 2, p6 W ci 3 1, p6 W ci 3 0, p6 W ci 2 7, p6 W ci 2 6, p6 W ci 2 5, p6 W ci 2 4, p6 W ci 2 3, p6 W ci 2 2, p6 W ci 2 1, p6 W ci 2 0, p6 W ci 1 7, p6 W ci 1 6, p6 W ci 1 5, p6 W ci 1 4, p6 W ci 1 3, p6 W ci 1 2, p6 W ci 1 1, p6 W ci 1 0, p6 W ci 0 7, p6 W ci 0 6, p6 W ci 0 5, p6 W ci 0 4, p6 W ci 0 3, p6 W ci 0 2, p6 W ci 0 1, p6 W ci 0 0]

/-- The bias sums' pieces: the first half's, then the second's over them. -/
def p10 (t : FVec F S8x256 .f32) (v : FVec F S256x256 .f32) (q : Fin 4) : View.Piece (Elt F) S8x1024 .f32 := ⟨rB q, tileBias t v⟩
section
variable (V : Fin 2 → Fin 4 → FVec F S256x256 .f32) (b : Fin 4 → FVec F S8x256 .f32)
  (rd : List (View.Piece (Elt F) S8x1024 .f32) → Fin 4 → FVec F S8x256 .f32)
def L10a : List (View.Piece (Elt F) S8x1024 .f32) :=
  [p10 (b 3) (V 0 3) 3, p10 (b 2) (V 0 2) 2, p10 (b 1) (V 0 1) 1, p10 (b 0) (V 0 0) 0]
def L10b : List (View.Piece (Elt F) S8x1024 .f32) := p10 (rd (L10a V b) 0) (V 1 0) 0 :: L10a V b
def L10c : List (View.Piece (Elt F) S8x1024 .f32) := p10 (rd (L10b V b rd) 1) (V 1 1) 1 :: L10b V b rd
def L10d : List (View.Piece (Elt F) S8x1024 .f32) := p10 (rd (L10c V b rd) 2) (V 1 2) 2 :: L10c V b rd
def L10 : List (View.Piece (Elt F) S8x1024 .f32) := p10 (rd (L10d V b rd) 3) (V 1 3) 3 :: L10d V b rd
end

/-- Whether the bias sums start over. -/
def startCond (i : grid0.Coords) : BitVec 1 :=
  Scalar.cmpi .ne (Scalar.extui (Scalar.cmpi .eq (BitVec.ofNat 32 (i 0).val) 0#32)) 0#32

end Cert.KernelIdeal.Val

end
-- ==== Proof.KernelBlock.lean ====
module

public import proofs.«01_k».proof.Proof.Spec
public import proofs.«01_k».proof.Proof.KernelTiles
public import Idealize.ShloMosaic.Lib.Pointwise

/-! The kernel's tile functions over the extended reals, element by element. -/

@[expose] public section

set_option maxRecDepth 16384

noncomputable section

namespace Cert.KernelIdeal.Val

open Cert.KernelIdeal.Gen
open Idealize.ShloMosaic Idealize.ShloMosaic.Tactic Idealize.SL.Sem
open Cert.Spec

theorem tileV_at (x g : FVec Ideal S256x256 .bf16) (y : S256x256.Idx) : tileV x g y = kD (x y) (g y) := by
  have h1 : Named.named (F := Ideal) κ "gelu_k" (φ := .f32) 0x3F4C422A#32 = ((Real.sqrt (2 * Real.pi⁻¹) : ℝ) : EReal) := rfl
  have h2 : Named.named (F := Ideal) κ "gelu_kc" (φ := .f32) 0x3D122279#32 = (((Real.sqrt (2 * Real.pi⁻¹)) * (8943 / 200000) : ℝ) : EReal) := rfl
  have h3 : Named.named (F := Ideal) κ "half_k" (φ := .f32) 0x3ECC422A#32 = (((1 / 2) * (Real.sqrt (2 * Real.pi⁻¹)) : ℝ) : EReal) := rfl
  have h4 : Named.named (F := Ideal) κ "three_half_kc" (φ := .f32) 0x3D5B33B6#32 = ((((3 / 2) * (Real.sqrt (2 * Real.pi⁻¹))) * (8943 / 200000) : ℝ) : EReal) := rfl
  unfold tileV kD; pointwise
  rw [h1, h2, h3, h4]

theorem expStep_at {s : Shape} (f : FVec Ideal s .f32) (c : BitVec 32) (e : IVec s 32) (y : s.Idx) :
    expStep f c e y = kStep (f y) c (e y) := by
  unfold expStep kStep; pointwise
  rfl

theorem expField_at {s : Shape} (f : FVec Ideal s .f32) (y : s.Idx) : expField f y = kField (f y) := by
  unfold expField kField
  simp only [expStep_at]
  rfl

theorem ratioF_at {s : Shape} (a : FVec Ideal s .f32) (y : s.Idx) : ratioF a y = kF (a y) := by
  unfold ratioF kF; pointwise
  rfl

theorem select_plain (e x y : BitVec 32) :
    Scalar.select (IntOp.ori (IntOp.cmpi .eq e 0#32) (IntOp.cmpi .eq e 2139095040#32)) x y = if e = 0#32 ∨ e = 2139095040#32 then x else y := by
  by_cases h : e = 0#32
  · subst h; simp [IntOp.ori, IntOp.cmpi, Scalar.select]
  · by_cases h' : e = 2139095040#32
    · subst h'; simp [IntOp.ori, IntOp.cmpi, Scalar.select]
    · have h1 : (e == 0#32) = false := by simpa using h
      have h2 : (e == 2139095040#32) = false := by simpa using h'
      simp [IntOp.ori, IntOp.cmpi, Scalar.select, h, h', h1, h2]

theorem scaleF_at {s : Shape} (a : FVec Ideal s .f32) (y : s.Idx) : scaleF a y = kScale (a y) := by
  show Ideal.ofBits .f32 (Scalar.select (IntOp.ori (IntOp.cmpi .eq (expField (ratioF a) y) 0#32)
    (IntOp.cmpi .eq (expField (ratioF a) y) 2139095040#32)) 1065353216#32 (expField (ratioF a) y + 8388608#32)) = _
  rw [expField_at, ratioF_at, select_plain]; rfl

theorem invF_at {s : Shape} (a : FVec Ideal s .f32) (y : s.Idx) : invF a y = kInv (a y) := by
  show Ideal.ofBits .f32 (Scalar.select (IntOp.ori (IntOp.cmpi .eq (expField (ratioF a) y) 0#32)
    (IntOp.cmpi .eq (expField (ratioF a) y) 2139095040#32)) 1065353216#32 (2122317824#32 - expField (ratioF a) y)) = _
  rw [expField_at, ratioF_at, select_plain]; rfl

theorem tileCmax_at (v : FVec Ideal S256x256 .f32) (i : Fin 8) (j : Fin 256) :
    tileCmax v (Idealize.ShloMosaic.ix2 i j) = gmax (fun k => v (Idealize.ShloMosaic.ix2 ⟨i.val * 32 + k.val, by omega⟩ j)) := by
  unfold tileCmax tileM gmax; pointwise
  rfl

theorem tileBias_at (b : FVec Ideal S8x256 .f32) (v : FVec Ideal S256x256 .f32) (i : Fin 8) (j : Fin 256) :
    tileBias b v (Idealize.ShloMosaic.ix2 i j) = b (Idealize.ShloMosaic.ix2 i j) + ∑ k : Fin 32, v (Idealize.ShloMosaic.ix2 ⟨k.val * 8 + i.val, by omega⟩ j) := by
  unfold tileBias; pointwise

theorem colCodes_at (v : FVec Ideal S128x128 .f32) (ci : FVec Ideal S4x128 .f32) (i j : Fin 128) :
    colCodes v ci (Idealize.ShloMosaic.ix2 i j) = clip (v (Idealize.ShloMosaic.ix2 j i) * ci (Idealize.ShloMosaic.ix2 ⟨j.val / 32, by omega⟩ i)) := by
  unfold colCodes clip; pointwise

/-- The column the `i`-th row of the permutation takes. -/
theorem perm_key : ∀ i : Fin 256, (IntOp.addi
            (IntOp.muli
              (Scalar.select
                (IntOp.andi
                  (IntOp.xori
                    (IntOp.cmpi CmpIPredicate.slt
                      (IntOp.remsi ArithUnit.vector (BitVec.ofNat 32 ↑i)
                        (Scalar.select (Scalar.cmpi CmpIPredicate.eq 8#32 0#32) 1#32 8#32))
                      0#32)
                    (Scalar.cmpi CmpIPredicate.slt (Scalar.select (Scalar.cmpi CmpIPredicate.eq 8#32 0#32) 1#32 8#32)
                      0#32))
                  (IntOp.cmpi CmpIPredicate.ne
                    (IntOp.remsi ArithUnit.vector (BitVec.ofNat 32 ↑i)
                      (Scalar.select (Scalar.cmpi CmpIPredicate.eq 8#32 0#32) 1#32 8#32))
                    0#32))
                (IntOp.addi
                  (IntOp.remsi ArithUnit.vector (BitVec.ofNat 32 ↑i)
                    (Scalar.select (Scalar.cmpi CmpIPredicate.eq 8#32 0#32) 1#32 8#32))
                  (Scalar.select (Scalar.cmpi CmpIPredicate.eq 8#32 0#32) 1#32 8#32))
                (IntOp.remsi ArithUnit.vector (BitVec.ofNat 32 ↑i)
                  (Scalar.select (Scalar.cmpi CmpIPredicate.eq 8#32 0#32) 1#32 8#32)))
              32#32)
            (Scalar.select
              (IntOp.andi
                (IntOp.cmpi CmpIPredicate.ne
                  (IntOp.subi (BitVec.setWidth 32 (IntOp.cmpi CmpIPredicate.sgt (BitVec.ofNat 32 ↑i) 0#32))
                    (BitVec.setWidth 32 (IntOp.cmpi CmpIPredicate.slt (BitVec.ofNat 32 ↑i) 0#32)))
                  (Scalar.subi (Scalar.extui (Scalar.cmpi CmpIPredicate.sgt 8#32 0#32))
                    (Scalar.extui (Scalar.cmpi CmpIPredicate.slt 8#32 0#32))))
                (IntOp.cmpi CmpIPredicate.ne (IntOp.remsi ArithUnit.vector (BitVec.ofNat 32 ↑i) 8#32) 0#32))
              (IntOp.subi (IntOp.divsi ArithUnit.vector (BitVec.ofNat 32 ↑i) 8#32) 1#32)
              (IntOp.divsi ArithUnit.vector (BitVec.ofNat 32 ↑i) 8#32))) = BitVec.ofNat 32 (i.val % 8 * 32 + i.val / 8) := by
  decide +kernel

/-- The group of a column. -/
theorem expand_key : ∀ j : Fin 1024, (Scalar.select
            (IntOp.andi
              (IntOp.cmpi CmpIPredicate.ne
                (IntOp.subi (BitVec.setWidth 32 (IntOp.cmpi CmpIPredicate.sgt (BitVec.ofNat 32 ↑j) 0#32))
                  (BitVec.setWidth 32 (IntOp.cmpi CmpIPredicate.slt (BitVec.ofNat 32 ↑j) 0#32)))
                (Scalar.subi (Scalar.extui (Scalar.cmpi CmpIPredicate.sgt 32#32 0#32))
                  (Scalar.extui (Scalar.cmpi CmpIPredicate.slt 32#32 0#32))))
              (IntOp.cmpi CmpIPredicate.ne (IntOp.remsi ArithUnit.vector (BitVec.ofNat 32 ↑j) 32#32) 0#32))
            (IntOp.subi (IntOp.divsi ArithUnit.vector (BitVec.ofNat 32 ↑j) 32#32) 1#32)
            (IntOp.divsi ArithUnit.vector (BitVec.ofNat 32 ↑j) 32#32)) = BitVec.ofNat 32 (j.val / 32) := by
  decide +kernel

/-- A comparison's bit, converted to a number. -/
theorem sitofp_eq (m n : ℕ) (hm : m < 2 ^ 31) (hn : n < 2 ^ 31) :
    FloatOps.sitofp (F := Ideal) .f32 (BitVec.setWidth 32 (IntOp.cmpi .eq (BitVec.ofNat 32 m) (BitVec.ofNat 32 n))) = if m = n then 1 else 0 := by
  have hmn : (BitVec.ofNat 32 m = BitVec.ofNat 32 n) ↔ m = n := by
    rw [← BitVec.toNat_inj, BitVec.toNat_ofNat, BitVec.toNat_ofNat, Nat.mod_eq_of_lt (by omega), Nat.mod_eq_of_lt (by omega)]
  by_cases h : m = n
  · subst h
    simp only [IntOp.cmpi, beq_self_eq_true, if_true]
    show (((BitVec.setWidth 32 (BitVec.ofBool true)).toInt : ℝ) : EReal) = 1
    have : (BitVec.setWidth 32 (BitVec.ofBool true)).toInt = 1 := by decide
    rw [this]; norm_num
  · have hb : (BitVec.ofNat 32 m == BitVec.ofNat 32 n) = false := by
      simpa [hmn] using h
    simp only [IntOp.cmpi, hb, if_neg h]
    show (((BitVec.setWidth 32 (BitVec.ofBool false)).toInt : ℝ) : EReal) = 0
    have : (BitVec.setWidth 32 (BitVec.ofBool false)).toInt = 0 := by decide
    rw [this]; norm_num

theorem permV_at (i j : Fin 256) : permV (F := Ideal) (Idealize.ShloMosaic.ix2 i j) = if j.val = i.val % 8 * 32 + i.val / 8 then 1 else 0 := by
  unfold permV k0_pay9 k0_pay5 k0_pay6 k0_pay7 k0_pay8; pointwise
  rw [perm_key i]
  exact sitofp_eq _ _ (by omega) (by omega)

theorem expand_at (i : Fin 32) (j : Fin 1024) : k0_pay10 (F := Ideal) (Idealize.ShloMosaic.ix2 i j) = if j.val / 32 = i.val then 1 else 0 := by
  unfold k0_pay10; pointwise
  rw [expand_key j]
  exact sitofp_eq _ _ (by omega) (by omega)

/-- A sum against a row of zeros with a single one picks out one summand. -/
theorem sum_pick {n : ℕ} (k : Fin n) (P : Fin n → Prop) [DecidablePred P] (hP : ∀ c, P c ↔ c = k) (f : Fin n → EReal) :
    ∑ c, (if P c then (1 : EReal) else 0) * f c = f k := by
  rw [Finset.sum_eq_single k]
  · rw [if_pos ((hP k).mpr rfl), one_mul]
  · intro c _ hc
    rw [if_neg (fun h => hc ((hP c).mp h)), zero_mul]
  · intro h; exact absurd (Finset.mem_univ k) h

theorem tileAmax_at (v : FVec Ideal S256x256 .f32) (i : Fin 8) (j : Fin 256) :
    tileAmax v (Idealize.ShloMosaic.ix2 i j) = gmax (fun k => v (Idealize.ShloMosaic.ix2 j ⟨i.val * 32 + k.val, by omega⟩)) := by
  unfold tileAmax gmax; pointwise
  refine congrArg (fun f => Finset.fold max _ f Finset.univ) (funext fun k => ?_)
  simp only [permV_at]
  rw [sum_pick ⟨i.val * 32 + k.val, by omega⟩ _ (fun c => by rw [Fin.ext_iff]; show c.val = _ ↔ c.val = i.val * 32 + k.val; constructor <;> (intro h; rw [h]; omega))]
  rfl

theorem tileCodes_at (e : FVec Ideal S32x256 .bf16) (q : Fin 4) (v : FVec Ideal S256x256 .f32) (i j : Fin 256) :
    tileCodes e q v (Idealize.ShloMosaic.ix2 i j) = clip (v (Idealize.ShloMosaic.ix2 i j) * e (Idealize.ShloMosaic.ix2 ⟨(256 * q.val + j.val) / 32, by omega⟩ i)) := by
  unfold tileCodes clip; pointwise
  simp only [expand_at]
  have h : ∀ x : Fin 32, e (Idealize.ShloMosaic.ix2 x i) * (if (256 * q.val + j.val) / 32 = x.val then (1 : EReal) else 0)
      = (if (256 * q.val + j.val) / 32 = x.val then (1 : EReal) else 0) * e (Idealize.ShloMosaic.ix2 x i) := fun x => mul_comm _ _
  simp only [h]
  rw [sum_pick ⟨(256 * q.val + j.val) / 32, by omega⟩ _ (fun c => by rw [Fin.ext_iff]; exact eq_comm)]

/-! ## The tiles of one gradient

`D r c` is the gradient of the block at row `r` and column `c`. -/

section
variable (V : Fin 2 → Fin 4 → FVec Ideal S256x256 .f32) (D : ℕ → ℕ → EReal)
  (hV : ∀ r q (i j : Fin 256), V r q (Idealize.ShloMosaic.ix2 i j) = D (256 * r.val + i.val) (256 * q.val + j.val))
include hV

theorem cmaxV (r : Fin 2) (q : Fin 4) (i : Fin 8) (j : Fin 256) :
    tileCmax (V r q) (Idealize.ShloMosaic.ix2 i j) = colMax D (8 * r.val + i.val) (256 * q.val + j.val) := by
  rw [tileCmax_at]
  refine congrArg gmax (funext fun k => ?_)
  rw [hV]
  congr 1; show 256 * r.val + (i.val * 32 + k.val) = _; ring

theorem amaxV (r : Fin 2) (q : Fin 4) (i : Fin 8) (j : Fin 256) :
    tileAmax (V r q) (Idealize.ShloMosaic.ix2 i j) = rowMax D (256 * r.val + j.val) (8 * q.val + i.val) := by
  rw [tileAmax_at]
  refine congrArg gmax (funext fun k => ?_)
  rw [hV]
  congr 1; show 256 * q.val + (i.val * 32 + k.val) = _; ring

omit hV in
theorem rowInv_at (i0 i1 i2 i3 : FVec Ideal S8x256 .f32) (i : Fin 32) (j : Fin 256) :
    rowInv i0 i1 i2 i3 (Idealize.ShloMosaic.ix2 i j) = (if h : i.val < 8 then i0 (Idealize.ShloMosaic.ix2 ⟨i.val, h⟩ j)
      else if h : i.val - 8 < 8 then i1 (Idealize.ShloMosaic.ix2 ⟨i.val - 8, h⟩ j)
      else if h : i.val - 8 - 8 < 8 then i2 (Idealize.ShloMosaic.ix2 ⟨i.val - 8 - 8, h⟩ j)
      else i3 (Idealize.ShloMosaic.ix2 ⟨i.val - 8 - 8 - 8, by omega⟩ j)) := by
  unfold rowInv; pointwise

theorem rowInvsV (r : Fin 2) (i : Fin 32) (j : Fin 256) :
    rowInvs V r (Idealize.ShloMosaic.ix2 i j) = kInv (rowMax D (256 * r.val + j.val) i.val) := by
  unfold rowInvs
  rw [rowInv_at]
  simp only [invF_at, amaxV V D hV]
  by_cases h0 : i.val < 8
  · rw [dif_pos h0]; congr 2; show 8 * 0 + i.val = _; omega
  rw [dif_neg h0]
  by_cases h1 : i.val - 8 < 8
  · rw [dif_pos h1]; congr 2; show 8 * 1 + (i.val - 8) = _; omega
  rw [dif_neg h1]
  by_cases h2 : i.val - 8 - 8 < 8
  · rw [dif_pos h2]; congr 2; show 8 * 2 + (i.val - 8 - 8) = _; omega
  rw [dif_neg h2]
  congr 2; show 8 * 3 + (i.val - 8 - 8 - 8) = _; omega

theorem biasV (b : FVec Ideal S8x256 .f32) (r : Fin 2) (q : Fin 4) (i : Fin 8) (j : Fin 256) :
    tileBias b (V r q) (Idealize.ShloMosaic.ix2 i j)
      = b (Idealize.ShloMosaic.ix2 i j) + ∑ k : Fin 32, D (256 * r.val + (k.val * 8 + i.val)) (256 * q.val + j.val) := by
  rw [tileBias_at]
  simp only [hV]

end

end Cert.KernelIdeal.Val

end
-- ==== Proof.KernelRun.lean ====
module

public import proofs.«01_k».proof.Proof.KernelTiles

/-! The body's run over the extended reals' program: what every buffer holds at its end, as the pieces written. -/

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The tiles of the gradient, from the loads of the two inputs. -/
def VT (arg1 : Memref sig .tc .vmem S512x1024 .bf16) (harg1 : arg1.IsWhole) (arg2 : Memref sig .tc .vmem S512x1024 .bf16) (harg2 : arg2.IsWhole)
    (x0 x1 : Vec F S512x1024 .bf16) (r : Fin 2) (q : Fin 4) : FVec F S256x256 .f32 :=
  tileV (View.readAt (Elt F) arg1.view (rT r q).toLoadRect (harg1.unread x0)) (View.readAt (Elt F) arg2.view (rT r q).toLoadRect (harg2.unread x1))

/-- The gradient read back, in tiles and in the smaller tiles of the column codes. -/
def W8 (arg8 : Memref sig .tc .vmem S512x1024 .f32) (V : Fin 2 → Fin 4 → FVec F S256x256 .f32) (r : Fin 2) (q : Fin 4) : FVec F S256x256 .f32 :=
  if r = 0 then arg8.view.readCov (L8a V) (rT r q).toLoadRect else arg8.view.readCov (L8 V) (rT r q).toLoadRect
def W8L (arg8 : Memref sig .tc .vmem S512x1024 .f32) (V : Fin 2 → Fin 4 → FVec F S256x256 .f32) (r : Fin 4) (q : Fin 8) : FVec F S128x128 .f32 :=
  arg8.view.readCov (L8 V) (rL r q).toLoadRect

/-- The column maxima read back. -/
def CM (arg9 : Memref sig .tc .vmem S16x1024 .f32) (V : Fin 2 → Fin 4 → FVec F S256x256 .f32) : FVec F S16x1024 .f32 :=
  arg9.view.readCov (L9 V) (Rect.unit (s := S16x1024) ![0, 0] S16x1024.size inb_S16x1024_S16x1024_0_0).toLoadRect

/-- The bias sums' buffer after the start: zero where they start over. -/
def f0 (i : grid0.Coords) (arg10 : Memref sig .tc .vmem S8x1024 .f32) (harg10 : arg10.IsWhole) (b : Vec F S8x1024 .f32) :=
  if startCond i = 1#1 then arg10.view.writes (Elt F) (harg10.unread b) [⟨Rect.unit (s := S8x1024) ![0, 0] S8x1024.size inb_S8x1024_S8x1024_0_0, k0_pay4⟩] else harg10.unread b
def B0 (i : grid0.Coords) (arg10 : Memref sig .tc .vmem S8x1024 .f32) (harg10 : arg10.IsWhole) (b : Vec F S8x1024 .f32) (q : Fin 4) : FVec F S8x256 .f32 :=
  View.readAt (Elt F) arg10.view (rB q).toLoadRect (f0 i arg10 harg10 b)
def RB (arg10 : Memref sig .tc .vmem S8x1024 .f32) (L : List (View.Piece (Elt F) S8x1024 .f32)) (q : Fin 4) : FVec F S8x256 .f32 :=
  arg10.view.readCov L (rB q).toLoadRect

theorem off1_eq (i : grid0.Coords) : k0_off1 i = ![16 * ((i 0).val % 8), 0] := by
  have h : (i 0).val < 144 := (i 0).isLt
  unfold k0_off1
  generalize (i 0).val = n at h
  have key : ∀ n : Fin 144, (Scalar.muli (Scalar.select (Scalar.andi (Scalar.xori (Scalar.cmpi .slt (Scalar.remsi (BitVec.ofNat 32 n.val) (8#32)) 0#32) (Scalar.cmpi .slt 8#32 0#32)) (Scalar.cmpi .ne (Scalar.remsi (BitVec.ofNat 32 n.val) (8#32)) 0#32)) (Scalar.addi (Scalar.remsi (BitVec.ofNat 32 n.val) (8#32)) 8#32) (Scalar.remsi (BitVec.ofNat 32 n.val) (8#32))) 16#32).toNat = 16 * (n.val % 8) := by decide +kernel
  funext a
  fin_cases a
  · exact key ⟨n, h⟩
  · rfl

instance (i : grid0.Coords) : ClosedOff (k0_off1 i) := ⟨![16 * ((i 0).val % 8), 0], off1_eq i⟩

/-- The column scales' piece. -/
def L11 (i : grid0.Coords) (cm : FVec F S16x1024 .f32) : List (View.Piece (Elt F) S128x1024 .f32) :=
  [⟨Rect.unit (s := S128x1024) (k0_off1 i) S16x1024.size (k0_off1_inb i), k0_pay1 (scaleF cm)⟩]
/-- The column scales' block and the bias. -/
def L7 (s : Vec F S128x1024 .f32) : List (View.Piece (Elt F) S1024x128 .f32) :=
  [⟨Rect.unit (s := S1024x128) ![0, 0] S1024x128.size inb_S1024x128_S1024x128_0_0, k0_pay2 s⟩]
def LD (b : Vec F S8x1024 .f32) : List (View.Piece (Elt F) S1x1024 .f32) :=
  [⟨Rect.unit (s := S1x1024) ![0, 0] S1x1024.size inb_S1x1024_S1x1024_0_0, k0_pay3 b⟩]

set_option maxHeartbeats 6000000 in
theorem run (c : Dev nD) (E : Set ℕ) (i : grid0.Coords) (arg1 : Memref sig .tc .vmem S512x1024 .bf16) (harg1 : arg1.IsWhole) (arg2 : Memref sig .tc .vmem S512x1024 .bf16) (harg2 : arg2.IsWhole) (arg3 : Memref sig .tc .vmem S1x1024 .f32) (harg3 : arg3.IsWhole) (arg4 : Memref sig .tc .vmem S512x1024 .fp8e5m2) (harg4 : arg4.IsWhole) (arg5 : Memref sig .tc .vmem S32x512 .f32) (harg5 : arg5.IsWhole) (arg6 : Memref sig .tc .vmem S1024x512 .fp8e5m2) (harg6 : arg6.IsWhole) (arg7 : Memref sig .tc .vmem S1024x128 .f32) (harg7 : arg7.IsWhole) (arg8 : Memref sig .tc .vmem S512x1024 .f32) (harg8 : arg8.IsWhole) (arg9 : Memref sig .tc .vmem S16x1024 .f32) (harg9 : arg9.IsWhole) (arg10 : Memref sig .tc .vmem S8x1024 .f32) (harg10 : arg10.IsWhole) (arg11 : Memref sig .tc .vmem S128x1024 .f32) (harg11 : arg11.IsWhole)
    (x0 x1 : Vec F S512x1024 .bf16) (d3 : Vec F S1x1024 .f32) (d7 : Vec F S1024x128 .f32) (b : Vec F S8x1024 .f32) (s : Vec F S128x1024 .f32) (K : PUnit → sProp 𝕄) :
    iprop(owns (c : Thread nD τ) arg1 fullShare x0 ∗ owns (c : Thread nD τ) arg2 fullShare x1 ∗ owns (c : Thread nD τ) arg3 fullShare d3 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare d7 ∗ (∃ d, owns (c : Thread nD τ) arg8 fullShare d) ∗ (∃ d, owns (c : Thread nD τ) arg9 fullShare d) ∗ owns (c : Thread nD τ) arg10 fullShare b ∗ owns (c : Thread nD τ) arg11 fullShare s
        ∗ (iprop((View.loc (c : Thread nD τ) arg1.view ↦[arg1.view.set]{fullShare} harg1.unread x0) ∗ (View.loc (c : Thread nD τ) arg2.view ↦[arg2.view.set]{fullShare} harg2.unread x1) ∗ (View.loc (c : Thread nD τ) arg3.view ↦[arg3.view.set]{fullShare} (if k0_cond3 i = 1#1 then arg3.view.writes (Elt F) (harg3.unread d3) (LD (arg10.view.readCov (L10 (VT arg1 harg1 arg2 harg2 x0 x1) (B0 i arg10 harg10 b) (RB arg10)) (Rect.unit (s := S8x1024) ![0, 0] S8x1024.size inb_S8x1024_S8x1024_0_0).toLoadRect)) else harg3.unread d3)) ∗ (∃ f4, (View.loc (c : Thread nD τ) arg4.view ↦[arg4.view.set]{fullShare} arg4.view.writes (Elt F) f4 (L4 (VT arg1 harg1 arg2 harg2 x0 x1) (W8 arg8 (VT arg1 harg1 arg2 harg2 x0 x1))))) ∗ (∃ f5, (View.loc (c : Thread nD τ) arg5.view ↦[arg5.view.set]{fullShare} arg5.view.writes (Elt F) f5 (L5 (VT arg1 harg1 arg2 harg2 x0 x1)))) ∗ (∃ f6, (View.loc (c : Thread nD τ) arg6.view ↦[arg6.view.set]{fullShare} arg6.view.writes (Elt F) f6 (L6 (W8L arg8 (VT arg1 harg1 arg2 harg2 x0 x1)) (invF (CM arg9 (VT arg1 harg1 arg2 harg2 x0 x1)))))) ∗ (View.loc (c : Thread nD τ) arg7.view ↦[arg7.view.set]{fullShare} (if k0_cond2 i = 1#1 then arg7.view.writes (Elt F) (harg7.unread d7) (L7 (View.readAt (Elt F) arg11.view (Rect.unit (s := S128x1024) ![0, 0] S128x1024.size inb_S128x1024_S128x1024_0_0).toLoadRect (arg11.view.writes (Elt F) (harg11.unread s) (L11 i (CM arg9 (VT arg1 harg1 arg2 harg2 x0 x1)))))) else harg7.unread d7)) ∗ (∃ f8, (View.loc (c : Thread nD τ) arg8.view ↦[arg8.view.set]{fullShare} arg8.view.writes (Elt F) f8 (L8 (VT arg1 harg1 arg2 harg2 x0 x1)))) ∗ (∃ f9, (View.loc (c : Thread nD τ) arg9.view ↦[arg9.view.set]{fullShare} arg9.view.writes (Elt F) f9 (L9 (VT arg1 harg1 arg2 harg2 x0 x1)))) ∗ (View.loc (c : Thread nD τ) arg10.view ↦[arg10.view.set]{fullShare} arg10.view.writes (Elt F) (f0 i arg10 harg10 b) (L10 (VT arg1 harg1 arg2 harg2 x0 x1) (B0 i arg10 harg10 b) (RB arg10))) ∗ (View.loc (c : Thread nD τ) arg11.view ↦[arg11.view.set]{fullShare} arg11.view.writes (Elt F) (harg11.unread s) (L11 i (CM arg9 (VT arg1 harg1 arg2 harg2 x0 x1))))) -∗ K ⟨⟩))
      ⊢ wp frame (wpE (defs₀ (F := F)) Variants.none c none) E (cc0_gelu_bwd_quant i arg1 harg1 arg2 harg2 arg3 harg3 arg4 harg4 arg5 harg5 arg6 harg6 arg7 harg7 arg8 harg8 arg9 harg9 arg10 harg10 arg11 harg11) K := by
  simp only [cc0_gelu_bwd_quant_eq_skeleton]; unfold cc0_gelu_bwd_quant_skel
  simp only [k0_part38_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%d8, %f8, -, H8⟩, ⟨%d9, %f9, -, H9⟩, ⟨%f10, %hf10, H10⟩, ⟨%f11, %hf11, H11⟩, Hk⟩
  obtain rfl := harg1.eq_unread hf1; obtain rfl := harg2.eq_unread hf2
  obtain rfl := harg3.eq_unread hf3; obtain rfl := harg7.eq_unread hf7
  obtain rfl := harg10.eq_unread hf10; obtain rfl := harg11.eq_unread hf11
  sl_exec
  sl_step
  have h8 : run.sl.H8_8 c arg1 harg1 arg2 harg2 x0 x1 = L8 (VT arg1 harg1 arg2 harg2 x0 x1) := rfl
  have h9 : run.sl.H9_8 c arg1 harg1 arg2 harg2 x0 x1 = L9 (VT arg1 harg1 arg2 harg2 x0 x1) := rfl
  have h5 : run.sl.H5_8 c arg1 harg1 arg2 harg2 x0 x1 = L5 (VT arg1 harg1 arg2 harg2 x0 x1) := rfl
  have h4 : run.sl.H4_8 c arg1 harg1 arg2 harg2 arg8 x0 x1 = L4 (VT arg1 harg1 arg2 harg2 x0 x1) (W8 arg8 (VT arg1 harg1 arg2 harg2 x0 x1)) := rfl
  have h6 : run.sl.H6_32 c arg1 harg1 arg2 harg2 arg8 arg9 x0 x1 = L6 (W8L arg8 (VT arg1 harg1 arg2 harg2 x0 x1)) (invF (CM arg9 (VT arg1 harg1 arg2 harg2 x0 x1))) := rfl
  have h10 : run.sl.H10_8 c i arg1 harg1 arg2 harg2 arg10 harg10 x0 x1 b = L10 (VT arg1 harg1 arg2 harg2 x0 x1) (B0 i arg10 harg10 b) (RB arg10) := rfl
  have h11 : run.sl.H11_1 c i arg1 harg1 arg2 harg2 arg9 x0 x1 = L11 i (CM arg9 (VT arg1 harg1 arg2 harg2 x0 x1)) := rfl
  iapply Hk
  isplitl [H1]
  · iexact H1
  isplitl [H2]
  · iexact H2
  isplitl [H3]
  · iexact H3
  isplitl [H4]
  · iexists _; iexact H4
  isplitl [H5]
  · iexists _; iexact H5
  isplitl [H6]
  · iexists _; iexact H6
  isplitl [H7]
  · iexact H7
  isplitl [H8]
  · iexists _; iexact H8
  isplitl [H9]
  · iexists _; iexact H9
  isplitl [H10]
  · iexact H10
  iexact H11

end Cert.KernelIdeal.Val

end
-- ==== Proof.KernelPieces.lean ====
module

public import proofs.«01_k».proof.Proof.KernelBlock
public import proofs.«01_k».proof.Proof.KernelRun
public import Idealize.ShloMosaic.Lib.Ring
public import Idealize.ShloMosaic.Lib.Pipeline.ValueKit.Tiles

/-! What the pieces of one grid point make of each buffer, as one function of the gradient's block. -/

@[expose] public section

set_option maxRecDepth 16384

noncomputable section

namespace Cert.KernelIdeal.Val

open Cert.KernelIdeal.Gen
open Idealize.ShloMosaic Idealize.ShloMosaic.Tactic Idealize.SL.Sem
open Cert.Spec

/-- An index of a matrix is made of its two coordinates. -/
theorem eta2 {a b : ℕ} (y : (⟨2, ![a, b]⟩ : Shape).Idx) :
    ∃ (i : Fin a) (j : Fin b), y = Idealize.ShloMosaic.ix2 i j :=
  ⟨y 0, y 1, by funext k; fin_cases k <;> rfl⟩

/-! ## Where a piece's elements lie -/

theorem embT (r : Fin 2) (q : Fin 4) (i : Fin 256) (j : Fin 256) :
    ((rT r q).emb (Idealize.ShloMosaic.ix2 i j) 0).val = 256 * r.val + i.val ∧ ((rT r q).emb (Idealize.ShloMosaic.ix2 i j) 1).val = 256 * q.val + j.val :=
  ⟨Rect.idx_unit_val _ _ (inbT r q) _ _, Rect.idx_unit_val _ _ (inbT r q) _ _⟩

theorem embM (r : Fin 2) (q : Fin 4) (i : Fin 8) (j : Fin 256) :
    ((rM r q).emb (Idealize.ShloMosaic.ix2 i j) 0).val = 8 * r.val + i.val ∧ ((rM r q).emb (Idealize.ShloMosaic.ix2 i j) 1).val = 256 * q.val + j.val :=
  ⟨Rect.idx_unit_val _ _ (inbM r q) _ _, Rect.idx_unit_val _ _ (inbM r q) _ _⟩

theorem embS (r : Fin 2) (q : Fin 4) (i : Fin 8) (j : Fin 256) :
    ((rS r q).emb (Idealize.ShloMosaic.ix2 i j) 0).val = 8 * q.val + i.val ∧ ((rS r q).emb (Idealize.ShloMosaic.ix2 i j) 1).val = 256 * r.val + j.val :=
  ⟨Rect.idx_unit_val _ _ (inbS r q) _ _, Rect.idx_unit_val _ _ (inbS r q) _ _⟩

theorem embB (q : Fin 4) (i : Fin 8) (j : Fin 256) :
    ((rB q).emb (Idealize.ShloMosaic.ix2 i j) 0).val = 0 + i.val ∧ ((rB q).emb (Idealize.ShloMosaic.ix2 i j) 1).val = 256 * q.val + j.val :=
  ⟨Rect.idx_unit_val _ _ (inbB q) _ _, Rect.idx_unit_val _ _ (inbB q) _ _⟩

theorem embC (r : Fin 4) (q : Fin 8) (i : Fin 128) (j : Fin 128) :
    ((rC r q).emb (Idealize.ShloMosaic.ix2 i j) 0).val = 128 * q.val + i.val ∧ ((rC r q).emb (Idealize.ShloMosaic.ix2 i j) 1).val = 128 * r.val + j.val :=
  ⟨Rect.idx_unit_val _ _ (inbC r q) _ _, Rect.idx_unit_val _ _ (inbC r q) _ _⟩

/-! ## The block functions -/

def G8 (D : ℕ → ℕ → EReal) : Vec Ideal S512x1024 .f32 := fun y => D (y 0).val (y 1).val
def G9 (D : ℕ → ℕ → EReal) : Vec Ideal S16x1024 .f32 := fun y => colMax D (y 0).val (y 1).val
def G5 (D : ℕ → ℕ → EReal) : Vec Ideal S32x512 .f32 := fun y => kScale (rowMax D (y 1).val (y 0).val)
def G4 (D : ℕ → ℕ → EReal) : Vec Ideal S512x1024 .fp8e5m2 := fun y =>
  clip (D (y 0).val (y 1).val * kInv (rowMax D (y 0).val ((y 1).val / 32)))
def G6 (D : ℕ → ℕ → EReal) : Vec Ideal S1024x512 .fp8e5m2 := fun y =>
  clip (D (y 1).val (y 0).val * kInv (colMax D ((y 1).val / 32) (y 0).val))
def G11 (D : ℕ → ℕ → EReal) : Vec Ideal S16x1024 .f32 := fun y => kScale (colMax D (y 0).val (y 1).val)

/-- The bias sums after a grid point: the sums before it and the block's rows, eight rows apart. -/
def G10 (B : ℕ → ℕ → EReal) (D : ℕ → ℕ → EReal) (p c : ℕ) : EReal :=
  (B p c + ∑ k : Fin 32, D (k.val * 8 + p) c) + ∑ k : Fin 32, D (256 + (k.val * 8 + p)) c

section
variable (V : Fin 2 → Fin 4 → FVec Ideal S256x256 .f32) (D : ℕ → ℕ → EReal)
  (hV : ∀ r q (i j : Fin 256), V r q (Idealize.ShloMosaic.ix2 i j) = D (256 * r.val + i.val) (256 * q.val + j.val))

include hV in
theorem p8_at (r : Fin 2) (q : Fin 4) (x : (p8 V r q).1.shape.Idx) : (p8 V r q).2 x = G8 D ((p8 V r q).1.emb x) := by
  obtain ⟨i, j, rfl⟩ := eta2 (a := 256) (b := 256) x
  refine (show shapeCast S256x256 (V r q) shapeCasts_S256x256_S256x256 (Idealize.ShloMosaic.ix2 i j) = G8 D ((rT r q).emb (Idealize.ShloMosaic.ix2 i j)) from ?_)
  unfold G8
  rw [show shapeCast S256x256 (V r q) shapeCasts_S256x256_S256x256 (Idealize.ShloMosaic.ix2 i j) = V r q (Idealize.ShloMosaic.ix2 i j) by pointwise, hV,
    (embT r q i j).1, (embT r q i j).2]

seal tileCmax in
include hV in
theorem p9_at (r : Fin 2) (q : Fin 4) (x : (p9 V r q).1.shape.Idx) : (p9 V r q).2 x = G9 D ((p9 V r q).1.emb x) := by
  obtain ⟨i, j, rfl⟩ := eta2 (a := 8) (b := 256) x
  refine (show tileCmax (V r q) (Idealize.ShloMosaic.ix2 i j) = G9 D ((rM r q).emb (Idealize.ShloMosaic.ix2 i j)) from ?_)
  unfold G9
  rw [cmaxV V D hV, (embM r q i j).1, (embM r q i j).2]

include hV in
theorem p5_at (r : Fin 2) (q : Fin 4) (x : (p5 V r q).1.shape.Idx) : (p5 V r q).2 x = G5 D ((p5 V r q).1.emb x) := by
  obtain ⟨i, j, rfl⟩ := eta2 (a := 8) (b := 256) x
  refine (show scaleF (tileAmax (V r q)) (Idealize.ShloMosaic.ix2 i j) = G5 D ((rS r q).emb (Idealize.ShloMosaic.ix2 i j)) from ?_)
  unfold G5
  rw [scaleF_at, amaxV V D hV, (embS r q i j).1, (embS r q i j).2]

include hV in
theorem p4_at (W : Fin 2 → Fin 4 → FVec Ideal S256x256 .f32)
    (hW : ∀ r q (i j : Fin 256), W r q (Idealize.ShloMosaic.ix2 i j) = D (256 * r.val + i.val) (256 * q.val + j.val))
    (r : Fin 2) (q : Fin 4) (x : (p4 V W r q).1.shape.Idx) : (p4 V W r q).2 x = G4 D ((p4 V W r q).1.emb x) := by
  obtain ⟨i, j, rfl⟩ := eta2 (a := 256) (b := 256) x
  refine (show tileCodes (rowInvs V r) q (W r q) (Idealize.ShloMosaic.ix2 i j) = G4 D ((rT r q).emb (Idealize.ShloMosaic.ix2 i j)) from ?_)
  unfold G4
  rw [tileCodes_at, hW, rowInvsV V D hV, (embT r q i j).1, (embT r q i j).2]

theorem p6_at (W : Fin 4 → Fin 8 → FVec Ideal S128x128 .f32) (ci : FVec Ideal S16x1024 .f32)
    (hW : ∀ r q (i j : Fin 128), W r q (Idealize.ShloMosaic.ix2 i j) = D (128 * r.val + i.val) (128 * q.val + j.val))
    (hci : ∀ (i : Fin 16) (j : Fin 1024), ci (Idealize.ShloMosaic.ix2 i j) = kInv (colMax D i.val j.val))
    (r : Fin 4) (q : Fin 8) (x : (p6 W ci r q).1.shape.Idx) : (p6 W ci r q).2 x = G6 D ((p6 W ci r q).1.emb x) := by
  obtain ⟨i, j, rfl⟩ := eta2 (a := 128) (b := 128) x
  refine (show colCodes (W r q) (extractStridedSlice S4x128 ![4 * r.val, 128 * q.val] ci (slicesC r q)) (Idealize.ShloMosaic.ix2 i j) = G6 D ((rC r q).emb (Idealize.ShloMosaic.ix2 i j)) from ?_)
  unfold G6
  rw [colCodes_at, hW, show extractStridedSlice S4x128 ![4 * r.val, 128 * q.val] ci (slicesC r q) (Idealize.ShloMosaic.ix2 ⟨j.val / 32, by omega⟩ i)
    = ci (Idealize.ShloMosaic.ix2 ⟨4 * r.val + j.val / 32, by omega⟩ ⟨128 * q.val + i.val, by omega⟩) by pointwise, hci,
    (embC r q i j).1, (embC r q i j).2, show (128 * r.val + j.val) / 32 = 4 * r.val + j.val / 32 by omega]

/-! ## Covers -/

theorem cover8 : ∀ y, ∃ p ∈ L8 V, y ∈ p.1.set := View.cover_of_tiledL (L8 V) ![256, 256] (by rfl)
theorem cover9 : ∀ y, ∃ p ∈ L9 V, y ∈ p.1.set := View.cover_of_tiledL (L9 V) ![8, 256] (by rfl)
theorem cover5 : ∀ y, ∃ p ∈ L5 V, y ∈ p.1.set := View.cover_of_tiledL (L5 V) ![8, 256] (by rfl)
theorem cover4 (W : Fin 2 → Fin 4 → FVec Ideal S256x256 .f32) : ∀ y, ∃ p ∈ L4 V W, y ∈ p.1.set := View.cover_of_tiledL (L4 V W) ![256, 256] (by rfl)
theorem cover6 (W : Fin 4 → Fin 8 → FVec Ideal S128x128 .f32) (ci : FVec Ideal S16x1024 .f32) : ∀ y, ∃ p ∈ L6 W ci, y ∈ p.1.set :=
  View.cover_of_tiledL (L6 W ci) ![128, 128] (by rfl)

/-! ## The buffers -/

include hV in
theorem canon8 : View.canon (L8 V) = G8 D := funext fun y => View.canon_apply_of_pieces (G8 D) _ (by
  intro p hp
  simp only [L8, L8a, List.mem_cons, List.mem_nil_iff, or_false] at hp
  rcases hp with rfl | rfl | rfl | rfl | rfl | rfl | rfl | rfl <;> exact p8_at V D hV _ _) y (cover8 V y)

include hV in
theorem canon9 : View.canon (L9 V) = G9 D := funext fun y => View.canon_apply_of_pieces (G9 D) _ (by
  intro p hp
  simp only [L9, List.mem_cons, List.mem_nil_iff, or_false] at hp
  rcases hp with rfl | rfl | rfl | rfl | rfl | rfl | rfl | rfl <;> exact p9_at V D hV _ _) y (cover9 V y)

include hV in
theorem canon5 : View.canon (L5 V) = G5 D := funext fun y => View.canon_apply_of_pieces (G5 D) _ (by
  intro p hp
  simp only [L5, List.mem_cons, List.mem_nil_iff, or_false] at hp
  rcases hp with rfl | rfl | rfl | rfl | rfl | rfl | rfl | rfl <;> exact p5_at V D hV _ _) y (cover5 V y)

include hV in
theorem canon4 (W : Fin 2 → Fin 4 → FVec Ideal S256x256 .f32)
    (hW : ∀ r q (i j : Fin 256), W r q (Idealize.ShloMosaic.ix2 i j) = D (256 * r.val + i.val) (256 * q.val + j.val)) :
    View.canon (L4 V W) = G4 D := funext fun y => View.canon_apply_of_pieces (G4 D) _ (by
  intro p hp
  simp only [L4, List.mem_cons, List.mem_nil_iff, or_false] at hp
  rcases hp with rfl | rfl | rfl | rfl | rfl | rfl | rfl | rfl <;> exact p4_at V D hV W hW _ _) y (cover4 V W y)

theorem canon6 (W : Fin 4 → Fin 8 → FVec Ideal S128x128 .f32) (ci : FVec Ideal S16x1024 .f32)
    (hW : ∀ r q (i j : Fin 128), W r q (Idealize.ShloMosaic.ix2 i j) = D (128 * r.val + i.val) (128 * q.val + j.val))
    (hci : ∀ (i : Fin 16) (j : Fin 1024), ci (Idealize.ShloMosaic.ix2 i j) = kInv (colMax D i.val j.val)) :
    View.canon (L6 W ci) = G6 D := funext fun y => View.canon_apply_of_pieces (G6 D) _ (by
  intro p hp
  have : ∃ r q, p = p6 W ci r q := by
    simp only [L6, List.mem_cons, List.mem_nil_iff, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;> exact ⟨_, _, rfl⟩
  obtain ⟨r, q, rfl⟩ := this
  exact p6_at D W ci hW hci r q) y (cover6 W ci y)

include hV in
/-- The gradient read back in tiles is the gradient. -/
theorem W8_at (arg8 : Memref sig .tc .vmem S512x1024 .f32) (r : Fin 2) (q : Fin 4) (i j : Fin 256) :
    W8 arg8 V r q (Idealize.ShloMosaic.ix2 i j) = D (256 * r.val + i.val) (256 * q.val + j.val) := by
  have hmem : ∀ (L : List (View.Piece (Elt Ideal) S512x1024 .f32)), p8 V r q ∈ L →
      (∀ p ∈ L, ∀ x, p.2 x = G8 D (p.1.emb x)) →
      arg8.view.readCov L (rT r q).toLoadRect (Idealize.ShloMosaic.ix2 i j) = D (256 * r.val + i.val) (256 * q.val + j.val) := by
    intro L hL hp
    have hc : ∀ k : (rT r q).toLoadRect.shape.Idx, ∃ p ∈ L, (rT r q).toLoadRect.idx k ∈ p.1.set :=
      fun k => ⟨_, hL, (rT r q).toLoadRect.idx_mem k⟩
    rw [View.readCov_eq_canon _ _ _ hc]
    refine (View.canon_apply_of_pieces (G8 D) L hp _ (hc _)).trans ?_
    show D _ _ = _
    congr 1
    · exact (embT r q i j).1
    · exact (embT r q i j).2
  unfold W8
  by_cases h : r = 0
  · rw [if_pos h]
    refine hmem _ ?_ ?_
    · subst h; fin_cases q <;> simp [L8a]
    · intro p hp
      simp only [L8a, List.mem_cons, List.mem_nil_iff, or_false] at hp
      rcases hp with rfl | rfl | rfl | rfl <;> exact p8_at V D hV _ _
  · rw [if_neg h]
    refine hmem _ ?_ ?_
    · have h1 : r = 1 := by omega
      subst h1; fin_cases q <;> simp [L8]
    · intro p hp
      simp only [L8, L8a, List.mem_cons, List.mem_nil_iff, or_false] at hp
      rcases hp with rfl | rfl | rfl | rfl | rfl | rfl | rfl | rfl <;> exact p8_at V D hV _ _

include hV in
theorem W8L_at (arg8 : Memref sig .tc .vmem S512x1024 .f32) (r : Fin 4) (q : Fin 8) (i j : Fin 128) :
    W8L arg8 V r q (Idealize.ShloMosaic.ix2 i j) = D (128 * r.val + i.val) (128 * q.val + j.val) := by
  unfold W8L
  rw [View.readCov_eq_canon_ld _ _ _ (cover8 V), canon8 V D hV]
  exact View.ld_unit_apply_of _ _ _ _ _ (Idealize.ShloMosaic.ix2 ⟨128 * r.val + i.val, by omega⟩ ⟨128 * q.val + j.val, by omega⟩)
    (fun a => by fin_cases a <;> rfl)

include hV in
theorem CM_at (arg9 : Memref sig .tc .vmem S16x1024 .f32) : CM arg9 V = G9 D := by
  unfold CM
  rw [View.readCov_eq_canon_ld _ _ _ (cover9 V), canon9 V D hV]
  funext y
  exact View.ld_unit_apply_of _ _ _ _ _ y (fun a => by fin_cases a <;> simp)

end

/-! ## The bias sums -/

/-- A list of pieces whose first ones cover an index is read there from those. -/
theorem canon_append {s : Shape} {e : EltTy} (A L : List (View.Piece (Elt Ideal) s e)) (y : s.Idx) (h : ∃ p ∈ A, y ∈ p.1.set) :
    View.canon (A ++ L) y = View.canon A y := by
  induction A with
  | nil => obtain ⟨p, hp, _⟩ := h; simp at hp
  | cons p A ih =>
    by_cases hm : y ∈ p.1.set
    · obtain ⟨x, rfl⟩ := p.1.exists_idx_of_mem hm
      rw [show p.1.idx x = p.1.emb x from rfl]
      obtain ⟨r, w⟩ := p
      exact (View.canon_cons_emb r w (A ++ L) x).trans (View.canon_cons_emb r w A x).symm
    · have h' : ∃ p ∈ A, y ∈ p.1.set := by
        obtain ⟨p', hp', hy⟩ := h
        rcases List.mem_cons.mp hp' with rfl | hp'
        · exact absurd hy hm
        · exact ⟨p', hp', hy⟩
      rw [List.cons_append, View.canon_cons_of_not_mem p _ hm, View.canon_cons_of_not_mem p _ hm, ih h']

section
variable (V : Fin 2 → Fin 4 → FVec Ideal S256x256 .f32) (D : ℕ → ℕ → EReal)
  (hV : ∀ r q (i j : Fin 256), V r q (Idealize.ShloMosaic.ix2 i j) = D (256 * r.val + i.val) (256 * q.val + j.val))
  (b : Fin 4 → FVec Ideal S8x256 .f32) (B : ℕ → ℕ → EReal)
  (hb : ∀ q (i : Fin 8) (j : Fin 256), b q (Idealize.ShloMosaic.ix2 i j) = B i.val (256 * q.val + j.val))
  (arg10 : Memref sig .tc .vmem S8x1024 .f32)

/-- The sums once a half's rows are added. -/
def half (B : ℕ → ℕ → EReal) (D : ℕ → ℕ → EReal) (o : ℕ) (p c : ℕ) : EReal := B p c + ∑ k : Fin 32, D (o + (k.val * 8 + p)) c
def Gh (B : ℕ → ℕ → EReal) (D : ℕ → ℕ → EReal) (o : ℕ) : Vec Ideal S8x1024 .f32 := fun y => half B D o (y 0).val (y 1).val

include hV in
theorem p10_at (t : FVec Ideal S8x256 .f32) (r : Fin 2) (q : Fin 4)
    (ht : ∀ (i : Fin 8) (j : Fin 256), t (Idealize.ShloMosaic.ix2 i j) = B i.val (256 * q.val + j.val))
    (x : (p10 t (V r q) q).1.shape.Idx) : (p10 t (V r q) q).2 x = Gh B D (256 * r.val) ((p10 t (V r q) q).1.emb x) := by
  obtain ⟨i, j, rfl⟩ := eta2 (a := 8) (b := 256) x
  refine (show tileBias t (V r q) (Idealize.ShloMosaic.ix2 i j) = Gh B D (256 * r.val) ((rB q).emb (Idealize.ShloMosaic.ix2 i j)) from ?_)
  unfold Gh
  rw [(embB q i j).1, (embB q i j).2, biasV V D hV, ht, zero_add]
  rfl

include hV hb in
theorem L10a_at (q : Fin 4) (i : Fin 8) (j : Fin 256) :
    RB arg10 (L10a V b) q (Idealize.ShloMosaic.ix2 i j) = half B D 0 i.val (256 * q.val + j.val) := by
  unfold RB
  have hm : p10 (b q) (V 0 q) q ∈ L10a V b := by fin_cases q <;> simp [L10a]
  have hc : ∀ k : (rB q).toLoadRect.shape.Idx, ∃ p ∈ L10a V b, (rB q).toLoadRect.idx k ∈ p.1.set :=
    fun k => ⟨_, hm, (rB q).toLoadRect.idx_mem k⟩
  rw [View.readCov_eq_canon _ _ _ hc]
  refine (View.canon_apply_of_pieces (Gh B D 0) _ ?_ _ (hc _)).trans ?_
  · intro p hp
    simp only [L10a, List.mem_cons, List.mem_nil_iff, or_false] at hp
    rcases hp with rfl | rfl | rfl | rfl <;> exact p10_at V D hV B _ 0 _ (hb _)
  · show half B D 0 _ _ = _
    congr 1
    · exact (embB q i j).1.trans (zero_add _)
    · exact (embB q i j).2

theorem RB_skip (t : FVec Ideal S8x256 .f32) (v : FVec Ideal S256x256 .f32) (q q' : Fin 4) (h : q ≠ q') (L : List (View.Piece (Elt Ideal) S8x1024 .f32)) :
    RB arg10 (p10 t v q :: L) q' = RB arg10 L q' := by
  unfold RB
  refine View.readCov_cons_of_disjoint _ _ _ _ (Finset.disjoint_left.mpr fun y hy hy' => h ?_)
  obtain ⟨x, hx⟩ := (rB q).exists_idx_of_mem hy
  obtain ⟨x', hx'⟩ := (rB q').exists_idx_of_mem hy'
  have e : ((rB q).idx x 1).val = ((rB q').idx x' 1).val := by rw [hx, hx']
  rw [show ((rB q).idx x 1).val = 256 * q.val + (x 1).val from Rect.idx_unit_val _ _ _ _ _,
    show ((rB q').idx x' 1).val = 256 * q'.val + (x' 1).val from Rect.idx_unit_val _ _ _ _ _] at e
  have l1 : (x 1).val < 256 := (x 1).isLt
  have l2 : (x' 1).val < 256 := (x' 1).isLt
  omega

include hV hb in
theorem canon10 : View.canon (L10 V b (RB arg10)) = fun y => G10 B D (y 0).val (y 1).val := by
  have ea := L10a_at V D hV b B hb arg10
  have e0 : ∀ i j, RB arg10 (L10a V b) 0 (Idealize.ShloMosaic.ix2 i j) = half B D 0 i.val (256 * (0 : Fin 4).val + j.val) := ea 0
  have e1 : ∀ i j, RB arg10 (L10b V b (RB arg10)) 1 (Idealize.ShloMosaic.ix2 i j) = half B D 0 i.val (256 * (1 : Fin 4).val + j.val) := by
    unfold L10b; rw [RB_skip _ _ _ _ _ (by decide)]; exact ea 1
  have e2 : ∀ i j, RB arg10 (L10c V b (RB arg10)) 2 (Idealize.ShloMosaic.ix2 i j) = half B D 0 i.val (256 * (2 : Fin 4).val + j.val) := by
    unfold L10c L10b; rw [RB_skip _ _ _ _ _ (by decide), RB_skip _ _ _ _ _ (by decide)]; exact ea 2
  have e3 : ∀ i j, RB arg10 (L10d V b (RB arg10)) 3 (Idealize.ShloMosaic.ix2 i j) = half B D 0 i.val (256 * (3 : Fin 4).val + j.val) := by
    unfold L10d L10c L10b; rw [RB_skip _ _ _ _ _ (by decide), RB_skip _ _ _ _ _ (by decide), RB_skip _ _ _ _ _ (by decide)]; exact ea 3
  have cov : ∀ y, ∃ p ∈ [p10 (RB arg10 (L10d V b (RB arg10)) 3) (V 1 3) 3, p10 (RB arg10 (L10c V b (RB arg10)) 2) (V 1 2) 2,
      p10 (RB arg10 (L10b V b (RB arg10)) 1) (V 1 1) 1, p10 (RB arg10 (L10a V b) 0) (V 1 0) 0], y ∈ p.1.set :=
    View.cover_of_tiledL _ ![8, 256] (by rfl)
  funext y
  refine (canon_append _ (L10a V b) y (cov y)).trans ?_
  refine (View.canon_apply_of_pieces (Gh (half B D 0) D 256) _ ?_ y (cov y)).trans ?_
  · intro p hp
    simp only [List.mem_cons, List.mem_nil_iff, or_false] at hp
    rcases hp with rfl | rfl | rfl | rfl
    · exact p10_at V D hV _ _ 1 _ e3
    · exact p10_at V D hV _ _ 1 _ e2
    · exact p10_at V D hV _ _ 1 _ e1
    · exact p10_at V D hV _ _ 1 _ e0
  · show half (half B D 0) D 256 _ _ = G10 B D _ _
    unfold half G10
    simp only [zero_add]

theorem cover10 (rd : List (View.Piece (Elt Ideal) S8x1024 .f32) → Fin 4 → FVec Ideal S8x256 .f32) : ∀ y, ∃ p ∈ L10 V b rd, y ∈ p.1.set := by
  intro y
  have cov : ∀ y, ∃ p ∈ L10a V b, y ∈ p.1.set := View.cover_of_tiledL (L10a V b) ![8, 256] (by rfl)
  obtain ⟨p, hp, hy⟩ := cov y
  exact ⟨p, by simp [L10, L10d, L10c, L10b, hp], hy⟩

end

end Cert.KernelIdeal.Val

end
-- ==== Proof.KernelBody.lean ====
module

public import proofs.«01_k».proof.Proof.KernelPieces
public import Idealize.ShloMosaic.Lib.VecWindow
public import Idealize.ShloMosaic.Lib.WritesUnit

/-! One grid point of the kernel over the extended reals: from the gradient's block and the sums carried so far to every
buffer it leaves. -/

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Spec

local notation "𝕄" => MT nD τ sig Unit (Elt Ideal) ℕ (UR sig nD τ) ℕ

/-- The bias: the eight rows of sums added. -/
def G3 (B D : ℕ → ℕ → EReal) : Vec Ideal S1x1024 .f32 := fun y => ∑ p : Fin 8, G10 B D p.val (y 1).val

/-- The column scales' buffer after a grid point: sixteen rows replaced. -/
def put11 (i : grid0.Coords) (D : ℕ → ℕ → EReal) (s : Vec Ideal S128x1024 .f32) : Vec Ideal S128x1024 .f32 := fun y =>
  if 16 * ((i 0).val % 8) ≤ (y 0).val ∧ (y 0).val < 16 * ((i 0).val % 8) + 16
  then kScale (colMax D ((y 0).val - 16 * ((i 0).val % 8)) (y 1).val) else s y

/-- That buffer transposed. -/
def tr (s : Vec Ideal S128x1024 .f32) : Vec Ideal S1024x128 .f32 := fun y =>
  s (Idealize.ShloMosaic.ix2 ⟨(y 1).val, (y 1).isLt⟩ ⟨(y 0).val, (y 0).isLt⟩)

section
variable (arg1 : Memref sig .tc .vmem S512x1024 .bf16) (harg1 : arg1.IsWhole) (arg2 : Memref sig .tc .vmem S512x1024 .bf16) (harg2 : arg2.IsWhole)
  (x0 x1 : Vec Ideal S512x1024 .bf16)
  (D B : ℕ → ℕ → EReal) (hD : ∀ (y : S512x1024.Idx), kD (x0 y) (x1 y) = D (y 0).val (y 1).val)

include hD in
theorem VT_at (r : Fin 2) (q : Fin 4) (i j : Fin 256) :
    VT arg1 harg1 arg2 harg2 x0 x1 r q (Idealize.ShloMosaic.ix2 i j) = D (256 * r.val + i.val) (256 * q.val + j.val) := by
  unfold VT
  rw [tileV_at, View.readAt_eq_ld, View.readAt_eq_ld, harg1.read_unread, harg2.read_unread]
  refine (hD ((rT r q).idx (Idealize.ShloMosaic.ix2 i j))).trans ?_
  congr 1
  · exact (embT r q i j).1
  · exact (embT r q i j).2

theorem ci_at (V : Fin 2 → Fin 4 → FVec Ideal S256x256 .f32)
    (hV : ∀ r q (i j : Fin 256), V r q (Idealize.ShloMosaic.ix2 i j) = D (256 * r.val + i.val) (256 * q.val + j.val))
    (arg9 : Memref sig .tc .vmem S16x1024 .f32) (i : Fin 16) (j : Fin 1024) :
    invF (CM arg9 V) (Idealize.ShloMosaic.ix2 i j) = kInv (colMax D i.val j.val) := by
  rw [invF_at, CM_at V D hV]; rfl

theorem B0_at (i : grid0.Coords) (arg10 : Memref sig .tc .vmem S8x1024 .f32) (harg10 : arg10.IsWhole) (b : Vec Ideal S8x1024 .f32)
    (hb : ∀ (p : Fin 8) (k : Fin 1024), B p.val k.val = if startCond i = 1#1 then 0 else b (Idealize.ShloMosaic.ix2 p k))
    (q : Fin 4) (p : Fin 8) (j : Fin 256) :
    B0 i arg10 harg10 b q (Idealize.ShloMosaic.ix2 p j) = B p.val (256 * q.val + j.val) := by
  have hq := hb p ⟨256 * q.val + j.val, by omega⟩
  unfold B0 f0
  have hidx : (rB q).idx (Idealize.ShloMosaic.ix2 p j) = Idealize.ShloMosaic.ix2 p ⟨256 * q.val + j.val, by omega⟩ := by
    funext a; apply Fin.ext; fin_cases a
    · exact (embB q p j).1.trans (zero_add _)
    · exact (embB q p j).2
  by_cases h : startCond i = 1#1
  · rw [if_pos h, View.readAt_eq_ld, View.read_writes_full]
    rw [if_pos h] at hq
    refine Eq.trans ?_ hq.symm
    show k0_pay4 (F := Ideal) ((rB q).idx (Idealize.ShloMosaic.ix2 p j)) = 0
    rw [hidx]
    unfold k0_pay4; pointwise
  · rw [if_neg h, View.readAt_eq_ld, harg10.read_unread]
    rw [if_neg h] at hq
    refine Eq.trans ?_ hq.symm
    show b ((rB q).idx (Idealize.ShloMosaic.ix2 p j)) = _
    rw [hidx]

theorem pay3_at (b : Vec Ideal S8x1024 .f32) (j : Fin 1024) :
    k0_pay3 (F := Ideal) b (Idealize.ShloMosaic.ix2 (0 : Fin 1) j) = ∑ p : Fin 8, b (Idealize.ShloMosaic.ix2 p j) := by
  unfold k0_pay3; pointwise

theorem pay2_at (s : Vec Ideal S128x1024 .f32) : k0_pay2 (F := Ideal) s = tr s := by
  funext y
  obtain ⟨i, j, rfl⟩ := eta2 (a := 1024) (b := 128) y
  unfold k0_pay2 tr; pointwise

theorem pay1_at (s : FVec Ideal S16x1024 .f32) : k0_pay1 (F := Ideal) s = s := by
  funext y
  obtain ⟨i, j, rfl⟩ := eta2 (a := 16) (b := 1024) y
  unfold k0_pay1; pointwise

theorem read11 (V : Fin 2 → Fin 4 → FVec Ideal S256x256 .f32)
    (hV : ∀ r q (i j : Fin 256), V r q (Idealize.ShloMosaic.ix2 i j) = D (256 * r.val + i.val) (256 * q.val + j.val))
    (i : grid0.Coords) (arg9 : Memref sig .tc .vmem S16x1024 .f32) (arg11 : Memref sig .tc .vmem S128x1024 .f32) (harg11 : arg11.IsWhole) (s : Vec Ideal S128x1024 .f32) :
    View.read (Elt Ideal) arg11.view (arg11.view.writes (Elt Ideal) (harg11.unread s) (L11 i (CM arg9 V))) = put11 i D s := by
  funext y
  unfold L11 put11
  rw [View.read_writes_cons_rows arg11.view _ (k0_off1_inb i) _ [] y (off1_eq i) (W := 16) rfl rfl, View.writes_nil, harg11.read_unread]
  by_cases h : 16 * ((i 0).val % 8) ≤ (y 0).val ∧ (y 0).val < 16 * ((i 0).val % 8) + 16
  · rw [dif_pos h, if_pos h, pay1_at, scaleF_at, CM_at V D hV]
    rfl
  · rw [dif_neg h, if_neg h]

end

set_option maxHeartbeats 1600000 in
/-- The grid point. -/
theorem body (c : Dev nD) (E : Set ℕ) (i : grid0.Coords) (arg1 : Memref sig .tc .vmem S512x1024 .bf16) (harg1 : arg1.IsWhole) (arg2 : Memref sig .tc .vmem S512x1024 .bf16) (harg2 : arg2.IsWhole) (arg3 : Memref sig .tc .vmem S1x1024 .f32) (harg3 : arg3.IsWhole) (arg4 : Memref sig .tc .vmem S512x1024 .fp8e5m2) (harg4 : arg4.IsWhole) (arg5 : Memref sig .tc .vmem S32x512 .f32) (harg5 : arg5.IsWhole) (arg6 : Memref sig .tc .vmem S1024x512 .fp8e5m2) (harg6 : arg6.IsWhole) (arg7 : Memref sig .tc .vmem S1024x128 .f32) (harg7 : arg7.IsWhole) (arg8 : Memref sig .tc .vmem S512x1024 .f32) (harg8 : arg8.IsWhole) (arg9 : Memref sig .tc .vmem S16x1024 .f32) (harg9 : arg9.IsWhole) (arg10 : Memref sig .tc .vmem S8x1024 .f32) (harg10 : arg10.IsWhole) (arg11 : Memref sig .tc .vmem S128x1024 .f32) (harg11 : arg11.IsWhole)
    (x0 x1 : Vec Ideal S512x1024 .bf16) (d3 : Vec Ideal S1x1024 .f32) (d7 : Vec Ideal S1024x128 .f32) (b : Vec Ideal S8x1024 .f32) (s : Vec Ideal S128x1024 .f32) (K : PUnit → sProp 𝕄)
    (D B : ℕ → ℕ → EReal) (hD : ∀ (y : S512x1024.Idx), kD (x0 y) (x1 y) = D (y 0).val (y 1).val)
    (hb : ∀ (p : Fin 8) (k : Fin 1024), B p.val k.val = if startCond i = 1#1 then 0 else b (Idealize.ShloMosaic.ix2 p k)) :
    iprop(owns (c : Thread nD τ) arg1 fullShare x0 ∗ owns (c : Thread nD τ) arg2 fullShare x1 ∗ owns (c : Thread nD τ) arg3 fullShare d3 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare d7 ∗ (∃ d, owns (c : Thread nD τ) arg8 fullShare d) ∗ (∃ d, owns (c : Thread nD τ) arg9 fullShare d) ∗ owns (c : Thread nD τ) arg10 fullShare b ∗ owns (c : Thread nD τ) arg11 fullShare s
        ∗ (iprop(owns (c : Thread nD τ) arg1 fullShare x0 ∗ owns (c : Thread nD τ) arg2 fullShare x1 ∗ owns (c : Thread nD τ) arg3 fullShare (if k0_cond3 i = 1#1 then G3 B D else d3) ∗ owns (c : Thread nD τ) arg4 fullShare (G4 D) ∗ owns (c : Thread nD τ) arg5 fullShare (G5 D) ∗ owns (c : Thread nD τ) arg6 fullShare (G6 D) ∗ owns (c : Thread nD τ) arg7 fullShare (if k0_cond2 i = 1#1 then tr (put11 i D s) else d7) ∗ (∃ d, owns (c : Thread nD τ) arg8 fullShare d) ∗ (∃ d, owns (c : Thread nD τ) arg9 fullShare d) ∗ owns (c : Thread nD τ) arg10 fullShare (fun y => G10 B D (y 0).val (y 1).val) ∗ owns (c : Thread nD τ) arg11 fullShare (put11 i D s)) -∗ K ⟨⟩))
      ⊢ wp frame (wpE (defs₀ (F := Ideal)) Variants.none c none) E (cc0_gelu_bwd_quant i arg1 harg1 arg2 harg2 arg3 harg3 arg4 harg4 arg5 harg5 arg6 harg6 arg7 harg7 arg8 harg8 arg9 harg9 arg10 harg10 arg11 harg11) K := by
  have hV := VT_at arg1 harg1 arg2 harg2 x0 x1 D hD
  have hB := B0_at B i arg10 harg10 b hb
  have h10 : ∀ f, View.read (Elt Ideal) arg10.view (arg10.view.writes (Elt Ideal) f (L10 (VT arg1 harg1 arg2 harg2 x0 x1) (B0 i arg10 harg10 b) (RB arg10))) = fun y => G10 B D (y 0).val (y 1).val := fun f =>
    (View.read_writes_eq_canon _ _ _ (cover10 _ _ _)).trans (canon10 _ D hV _ B hB arg10)
  iintro ⟨H1, H2, H3, H4, H5, H6, H7, H8, H9, H10, H11, Hk⟩
  iapply (run c E i arg1 harg1 arg2 harg2 arg3 harg3 arg4 harg4 arg5 harg5 arg6 harg6 arg7 harg7 arg8 harg8 arg9 harg9 arg10 harg10 arg11 harg11 x0 x1 d3 d7 b s K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H1, H2, H3, ⟨%f4, H4⟩, ⟨%f5, H5⟩, ⟨%f6, H6⟩, H7, ⟨%f8, H8⟩, ⟨%f9, H9⟩, H10, H11⟩
  iapply Hk
  unfold owns
  isplitl [H1]
  · iexists _; isplitr; · ipureintro; exact harg1.read_unread _
    iexact H1
  isplitl [H2]
  · iexists _; isplitr; · ipureintro; exact harg2.read_unread _
    iexact H2
  isplitl [H3]
  · iexists _; isplitr; swap; · iexact H3
    ipureintro
    by_cases h : k0_cond3 i = 1#1
    · rw [if_pos h, if_pos h]
      unfold LD
      rw [View.read_writes_full, View.readCov, View.readAt_full, h10]
      funext y
      obtain ⟨u, j, rfl⟩ := eta2 (a := 1) (b := 1024) y
      obtain rfl : u = 0 := Subsingleton.elim _ _
      exact pay3_at _ j
    · rw [if_neg h, if_neg h]; exact harg3.read_unread _
  isplitl [H4]
  · iexists _; isplitr; swap; · iexact H4
    ipureintro
    exact (View.read_writes_eq_canon _ _ _ (cover4 _ _)).trans (canon4 _ D hV _ (W8_at _ D hV arg8))
  isplitl [H5]
  · iexists _; isplitr; swap; · iexact H5
    ipureintro
    exact (View.read_writes_eq_canon _ _ _ (cover5 _)).trans (canon5 _ D hV)
  isplitl [H6]
  · iexists _; isplitr; swap; · iexact H6
    ipureintro
    exact (View.read_writes_eq_canon _ _ _ (cover6 _ _)).trans (canon6 D _ _ (W8L_at _ D hV arg8) (ci_at D _ hV arg9))
  isplitl [H7]
  · iexists _; isplitr; swap; · iexact H7
    ipureintro
    by_cases h : k0_cond2 i = 1#1
    · rw [if_pos h, if_pos h]
      unfold L7
      rw [View.read_writes_full, View.readAt_full, read11 D _ hV, pay2_at]
    · rw [if_neg h, if_neg h]; exact harg7.read_unread _
  isplitl [H8]
  · iexists _, _; isplitr; swap; · iexact H8
    ipureintro; rfl
  isplitl [H9]
  · iexists _, _; isplitr; swap; · iexact H9
    ipureintro; rfl
  isplitl [H10]
  · iexists _; isplitr; swap; · iexact H10
    ipureintro; exact h10 _
  iexists _; isplitr; swap; · iexact H11
  ipureintro
  exact read11 D _ hV i arg9 arg11 harg11 s

end Cert.KernelIdeal.Val

end
-- ==== Proof.KernelValue.lean ====
module

public import proofs.«01_k».proof.Proof.KernelBody
public import proofs.«01_k».proof.Proof.KernelIdealFrame
public import Idealize.ShloMosaic.Lib.Pipeline.Value
public import Idealize.ShloMosaic.Lib.Pipeline.ValueKit.Geometry

/-! The kernel's run over the extended reals, point by point: what every window's buffer and every carried scratch buffer
holds after each grid point, and what that leaves in the five result arrays. -/

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec

local notation "𝕄" => MT nD τ sig Unit (Elt Ideal) ℕ (UR sig nD τ) ℕ

variable (m : (ℓ : Loc nD τ sig) → Buf (Elt Ideal) ℓ) (ρ : Dev nD → PrngReg)

/-! ## The gradient and the sums -/

/-- The gradient of the two argument arrays at row `r` and column `c`. -/
def DA (x g : Vec Ideal S73728x1024 .bf16) (r c : ℕ) : EReal :=
  if h : r < 73728 ∧ c < 1024 then
    kD (x (Idealize.ShloMosaic.ix2 ⟨r, h.1⟩ ⟨c, h.2⟩)) (g (Idealize.ShloMosaic.ix2 ⟨r, h.1⟩ ⟨c, h.2⟩)) else 0

/-- The gradient of the arrays that the kernel is called with. -/
def Dm (c : Dev nD) : ℕ → ℕ → EReal := DA (V m c main_arg0) (V m c main_arg1)

/-- The eight rows of sums before grid point `n`. -/
def Bacc (D : ℕ → ℕ → EReal) : ℕ → ℕ → ℕ → EReal
  | 0 => fun _ _ => 0
  | n + 1 => fun p k => G10 (Bacc D n) (fun r => D (512 * n + r)) p k

/-- What is known of the carried scratch buffers before grid point `n`. -/
def Inv (D : ℕ → ℕ → EReal) (n : ℕ) (b : Vec Ideal S8x1024 .f32) (s : Vec Ideal S128x1024 .f32) : Prop :=
  (n ≠ 0 → ∀ (p : Fin 8) (k : Fin 1024), b (Idealize.ShloMosaic.ix2 p k) = Bacc D n p.val k.val)
  ∧ ∀ (p : Fin 128) (k : Fin 1024), p.val < 16 * (n % 8) →
      s (Idealize.ShloMosaic.ix2 p k) = kScale (colMax D (128 * (n / 8) + p.val) k.val)

/-! ## Where a block lies in its array -/

theorem index0 (t : Fin cfg0.N) : win0_0.index t 0 = t.val ∧ win0_0.index t 1 = 0 :=
  (by decide +kernel : ∀ t : Fin grid0.N, win0_0.index t 0 = t.val ∧ win0_0.index t 1 = 0) t
theorem index1 (t : Fin cfg0.N) : win0_1.index t 0 = t.val ∧ win0_1.index t 1 = 0 :=
  (by decide +kernel : ∀ t : Fin grid0.N, win0_1.index t 0 = t.val ∧ win0_1.index t 1 = 0) t
theorem index2 (t : Fin cfg0.N) : win0_2.index t 0 = 0 ∧ win0_2.index t 1 = 0 :=
  (by decide +kernel : ∀ t : Fin grid0.N, win0_2.index t 0 = 0 ∧ win0_2.index t 1 = 0) t
theorem index3 (t : Fin cfg0.N) : win0_3.index t 0 = t.val ∧ win0_3.index t 1 = 0 :=
  (by decide +kernel : ∀ t : Fin grid0.N, win0_3.index t 0 = t.val ∧ win0_3.index t 1 = 0) t
theorem index4 (t : Fin cfg0.N) : win0_4.index t 0 = 0 ∧ win0_4.index t 1 = t.val :=
  (by decide +kernel : ∀ t : Fin grid0.N, win0_4.index t 0 = 0 ∧ win0_4.index t 1 = t.val) t
theorem index5 (t : Fin cfg0.N) : win0_5.index t 0 = 0 ∧ win0_5.index t 1 = t.val :=
  (by decide +kernel : ∀ t : Fin grid0.N, win0_5.index t 0 = 0 ∧ win0_5.index t 1 = t.val) t
theorem index6 (t : Fin cfg0.N) : win0_6.index t 0 = 0 ∧ win0_6.index t 1 = t.val / 8 :=
  (by decide +kernel : ∀ t : Fin grid0.N, win0_6.index t 0 = 0 ∧ win0_6.index t 1 = t.val / 8) t

theorem coord0 (t : Fin cfg0.N) : ((grid0.coords t) 0).val = t.val :=
  (by decide +kernel : ∀ t : Fin grid0.N, ((grid0.coords t) 0).val = t.val) t

theorem hstart (t : Fin cfg0.N) : startCond (grid0.coords t) = 1#1 ↔ t.val = 0 :=
  (by decide +kernel : ∀ t : Fin grid0.N, startCond (grid0.coords t) = 1#1 ↔ t.val = 0) t
theorem hcond2 (t : Fin cfg0.N) : k0_cond2 (grid0.coords t) = 1#1 ↔ t.val % 8 = 7 :=
  (by decide +kernel : ∀ t : Fin grid0.N, k0_cond2 (grid0.coords t) = 1#1 ↔ t.val % 8 = 7) t
theorem hcond3 (t : Fin cfg0.N) : k0_cond3 (grid0.coords t) = 1#1 ↔ t.val % 144 = 143 :=
  (by decide +kernel : ∀ t : Fin grid0.N, k0_cond3 (grid0.coords t) = 1#1 ↔ t.val % 144 = 143) t

theorem iblk0_at (c : Dev nD) (t : Fin cfg0.N) (y : S512x1024.Idx) (h : 512 * t.val + (y 0).val < 73728) :
    (iblk m c 0 t : Vec Ideal S512x1024 .bf16) y
      = V m c main_arg0 (Idealize.ShloMosaic.ix2 ⟨512 * t.val + (y 0).val, h⟩ ⟨(y 1).val, (y 1).isLt⟩) := by
  unfold iblk
  rw [View.read_apply]
  show V m c main_arg0 _ = _
  congr 1
  funext a
  apply Fin.ext
  match a with
  | ⟨0, _⟩ => show win0_0.index t 0 * 512 + 1 * (y 0).val = 512 * t.val + (y 0).val; rw [(index0 t).1]; omega
  | ⟨1, _⟩ => show win0_0.index t 1 * 1024 + 1 * (y 1).val = (y 1).val; rw [(index0 t).2]; omega

theorem iblk1_at (c : Dev nD) (t : Fin cfg0.N) (y : S512x1024.Idx) (h : 512 * t.val + (y 0).val < 73728) :
    (iblk m c 1 t : Vec Ideal S512x1024 .bf16) y
      = V m c main_arg1 (Idealize.ShloMosaic.ix2 ⟨512 * t.val + (y 0).val, h⟩ ⟨(y 1).val, (y 1).isLt⟩) := by
  unfold iblk
  rw [View.read_apply]
  show V m c main_arg1 _ = _
  congr 1
  funext a
  apply Fin.ext
  match a with
  | ⟨0, _⟩ => show win0_1.index t 0 * 512 + 1 * (y 0).val = 512 * t.val + (y 0).val; rw [(index1 t).1]; omega
  | ⟨1, _⟩ => show win0_1.index t 1 * 1024 + 1 * (y 1).val = (y 1).val; rw [(index1 t).2]; omega

theorem tlt (t : Fin cfg0.N) : t.val < 144 := lt_of_lt_of_eq t.isLt (show cfg0.N = 144 from N_0)

theorem hD (c : Dev nD) (t : Fin cfg0.N) (y : S512x1024.Idx) :
    kD ((iblk m c 0 t : Vec Ideal S512x1024 .bf16) y) ((iblk m c 1 t : Vec Ideal S512x1024 .bf16) y)
      = (fun r => Dm m c (512 * t.val + r)) (y 0).val (y 1).val := by
  have ht := tlt t
  have h0 : (y 0).val < 512 := (y 0).isLt
  have h1 : (y 1).val < 1024 := (y 1).isLt
  have h : 512 * t.val + (y 0).val < 73728 := by omega
  rw [iblk0_at m c t y h, iblk1_at m c t y h]
  show _ = DA _ _ _ _
  unfold DA
  rw [dif_pos ⟨h, h1⟩]

/-! ## The invariant's step -/

theorem colMax_shift (D : ℕ → ℕ → EReal) (n a g k : ℕ) (h : 512 * n + 32 * a = 32 * g) :
    colMax (fun r => D (512 * n + r)) a k = colMax D g k := by
  unfold colMax
  congr 1
  funext j
  show D (512 * n + (32 * a + j.val)) k = D (32 * g + j.val) k
  rw [show 512 * n + (32 * a + j.val) = 32 * g + j.val by omega]

/-- The column scales written so far, after the sixteen rows of point `t` are written. -/
theorem put11_at (D : ℕ → ℕ → EReal) (t : Fin cfg0.N) (b : Vec Ideal S8x1024 .f32) (s : Vec Ideal S128x1024 .f32)
    (hI : Inv D t.val b s) (p : Fin 128) (k : Fin 1024) (hp : p.val < 16 * (t.val % 8) + 16) :
    put11 (grid0.coords t) (fun r => D (512 * t.val + r)) s (Idealize.ShloMosaic.ix2 p k)
      = kScale (colMax D (128 * (t.val / 8) + p.val) k.val) := by
  unfold put11
  rw [coord0]
  show (if 16 * (t.val % 8) ≤ p.val ∧ p.val < 16 * (t.val % 8) + 16
    then kScale (colMax (fun r => D (512 * t.val + r)) (p.val - 16 * (t.val % 8)) k.val) else s (Idealize.ShloMosaic.ix2 p k)) = _
  by_cases h : 16 * (t.val % 8) ≤ p.val ∧ p.val < 16 * (t.val % 8) + 16
  · rw [if_pos h, colMax_shift D t.val _ (128 * (t.val / 8) + p.val) k.val (by omega)]
  · rw [if_neg h]; exact hI.2 p k (by omega)

theorem Inv_succ (D : ℕ → ℕ → EReal) (t : Fin cfg0.N) (b : Vec Ideal S8x1024 .f32) (s : Vec Ideal S128x1024 .f32)
    (hI : Inv D t.val b s) :
    Inv D (t.val + 1) (fun y => G10 (Bacc D t.val) (fun r => D (512 * t.val + r)) (y 0).val (y 1).val)
      (put11 (grid0.coords t) (fun r => D (512 * t.val + r)) s) := by
  refine ⟨fun _ p k => rfl, fun p k hp => ?_⟩
  rw [put11_at D t b s hI p k (by omega)]
  rw [show (t.val + 1) / 8 = t.val / 8 by omega]

theorem hB (D : ℕ → ℕ → EReal) (t : Fin cfg0.N) (b : Vec Ideal S8x1024 .f32) (s : Vec Ideal S128x1024 .f32)
    (hI : Inv D t.val b s) (p : Fin 8) (k : Fin 1024) :
    Bacc D t.val p.val k.val = if startCond (grid0.coords t) = 1#1 then 0 else b (Idealize.ShloMosaic.ix2 p k) := by
  by_cases h : startCond (grid0.coords t) = 1#1
  · rw [if_pos h, (hstart t).mp h]; rfl
  · rw [if_neg h]; exact (hI.1 (fun h0 => h ((hstart t).mpr h0)) p k).symm

/-! ## The pipeline's proof data -/

/-- The column scales' block after point `t`: the scales of the 128 groups of rows that the block is for. -/
def G7 (D : ℕ → ℕ → EReal) (n : ℕ) : Vec Ideal S1024x128 .f32 := fun y =>
  kScale (colMax D (128 * (n / 8) + (y 1).val) (y 0).val)

/-- The invariant before grid point `n`. -/
def PhiV (c : Dev nD) (n : ℕ) : sProp 𝕄 :=
  iprop(iprop((∃ d, owns (c : Thread nD τ) scM0_0 fullShare d) ∗ (∃ d, owns (c : Thread nD τ) scM0_1 fullShare d)
    ∗ (∃ b s, ⌜Inv (Dm m c) n b s⌝ ∗ owns (c : Thread nD τ) scM0_2 fullShare b ∗ owns (c : Thread nD τ) scM0_3 fullShare s)) ∗ (∃ r, prngReg c r))

/-- The arrays as the region finds them; after each point, each input's buffer at its block and each output's at its value. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => G3 (Bacc (Dm m c) t.val) (fun r => Dm m c (512 * t.val + r))
    | ⟨3, _⟩ => G4 (fun r => Dm m c (512 * t.val + r))
    | ⟨4, _⟩ => G5 (fun r => Dm m c (512 * t.val + r))
    | ⟨5, _⟩ => G6 (fun r => Dm m c (512 * t.val + r))
    | ⟨6, _⟩ => G7 (Dm m c) t.val
  Φ t := PhiV m c t.val
  q _ := fullShare
  owed _ := 0

theorem vA_eq (c : Dev nD) (w : Fin cfg0.W) : (vdats m 0 c).A w = V m c (Pipeline.arrRef spec0 w) := by
  dsimp only [vdats]
theorem vafter0 (c : Dev nD) (t : Fin cfg0.N) : (vdats m 0 c).after 0 t = iblk m c 0 t := by dsimp only [vdats]
theorem vafter1 (c : Dev nD) (t : Fin cfg0.N) : (vdats m 0 c).after 1 t = iblk m c 1 t := by dsimp only [vdats]
theorem vafter2 (c : Dev nD) (t : Fin cfg0.N) : (vdats m 0 c).after 2 t = G3 (Bacc (Dm m c) t.val) (fun r => Dm m c (512 * t.val + r)) := by dsimp only [vdats]
theorem vafter3 (c : Dev nD) (t : Fin cfg0.N) : (vdats m 0 c).after 3 t = G4 (fun r => Dm m c (512 * t.val + r)) := by dsimp only [vdats]
theorem vafter4 (c : Dev nD) (t : Fin cfg0.N) : (vdats m 0 c).after 4 t = G5 (fun r => Dm m c (512 * t.val + r)) := by dsimp only [vdats]
theorem vafter5 (c : Dev nD) (t : Fin cfg0.N) : (vdats m 0 c).after 5 t = G6 (fun r => Dm m c (512 * t.val + r)) := by dsimp only [vdats]
theorem vafter6 (c : Dev nD) (t : Fin cfg0.N) : (vdats m 0 c).after 6 t = G7 (Dm m c) t.val := by dsimp only [vdats]
theorem vbefore0 (c : Dev nD) (t : Fin cfg0.N) (d) : (vdats m 0 c).before 0 t d = iblk m c 0 t :=
  before0_0_of m (vdats m 0 c) (vA_eq m c 0) (vafter0 m c) t d
theorem vbefore1 (c : Dev nD) (t : Fin cfg0.N) (d) : (vdats m 0 c).before 1 t d = iblk m c 1 t :=
  before0_1_of m (vdats m 0 c) (vA_eq m c 1) (vafter1 m c) t d

/-! ## The body obligation -/

def vpre (c : Dev nD) (t : Fin cfg0.N) : sProp 𝕄 :=
  iprop((vdats m 0 c).Φ t.castSucc ∗ (vdats m 0 c).owesAt () t.castSucc
    ∗ (∃ d, owns (c : Thread nD τ) (ms0_0 t) fullShare ((vdats m 0 c).before 0 t d))
    ∗ (∃ d, owns (c : Thread nD τ) (ms0_1 t) fullShare ((vdats m 0 c).before 1 t d))
    ∗ (∃ d, owns (c : Thread nD τ) (ms0_2 t) fullShare ((vdats m 0 c).before 2 t d))
    ∗ (∃ d, owns (c : Thread nD τ) (ms0_3 t) fullShare ((vdats m 0 c).before 3 t d))
    ∗ (∃ d, owns (c : Thread nD τ) (ms0_4 t) fullShare ((vdats m 0 c).before 4 t d))
    ∗ (∃ d, owns (c : Thread nD τ) (ms0_5 t) fullShare ((vdats m 0 c).before 5 t d))
    ∗ (∃ d, owns (c : Thread nD τ) (ms0_6 t) fullShare ((vdats m 0 c).before 6 t d)))

def vpost (c : Dev nD) (t : Fin cfg0.N) : sProp 𝕄 :=
  iprop((vdats m 0 c).Φ t.succ ∗ (vdats m 0 c).owesAt () t.succ
    ∗ (vdats m 0 c).leavesExact 0 t
    ∗ (vdats m 0 c).leavesExact 1 t
    ∗ (vdats m 0 c).leavesExact 2 t
    ∗ (vdats m 0 c).leavesExact 3 t
    ∗ (vdats m 0 c).leavesExact 4 t
    ∗ (vdats m 0 c).leavesExact 5 t
    ∗ (vdats m 0 c).leavesExact 6 t)

/-- The bias's buffer: left at the sums on the last point, untouched before it. -/
theorem leaves2 (c : Dev nD) (t : Fin cfg0.N) (d) :
    owns (c : Thread nD τ) (ms0_2 t) fullShare (if k0_cond3 (grid0.coords t) = 1#1
        then G3 (Bacc (Dm m c) t.val) (fun r => Dm m c (512 * t.val + r)) else (vdats m 0 c).before 2 t d)
      ⊢ ((vdats m 0 c).leavesExact 2 t : sProp 𝕄) := by
  by_cases h : k0_cond3 (grid0.coords t) = 1#1
  · rw [if_pos h]
    have hi : cfg0.idle 2 (grid0.coords t) = false := by
      show (!(k0_cond3 (grid0.coords t) == 1#1)) = false
      rw [h]; rfl
    unfold Dat.leavesExact; rw [hi, vafter2]
  · rw [if_neg h]
    have hi : cfg0.idle 2 (grid0.coords t) = true := by
      show (!(k0_cond3 (grid0.coords t) == 1#1)) = true
      simpa using h
    have hf : (cfg0.win 2).flush t = false := by
      rw [Bool.eq_false_iff]; exact fun hf => h ((hcond3 t).mpr ((flush0_2 t).mp hf))
    rw [Dat.leavesExact_idle (vdats m 0 c) 2 t hi hf]
    iintro H
    iexists d
    iexact H

/-- The column scales' buffer: left at the block's scales on the last of each eight points, untouched before it. -/
theorem leaves6 (c : Dev nD) (t : Fin cfg0.N) (d) (b : Vec Ideal S8x1024 .f32) (s : Vec Ideal S128x1024 .f32) (hI : Inv (Dm m c) t.val b s) :
    owns (c : Thread nD τ) (ms0_6 t) fullShare (if k0_cond2 (grid0.coords t) = 1#1
        then tr (put11 (grid0.coords t) (fun r => Dm m c (512 * t.val + r)) s) else (vdats m 0 c).before 6 t d)
      ⊢ ((vdats m 0 c).leavesExact 6 t : sProp 𝕄) := by
  by_cases h : k0_cond2 (grid0.coords t) = 1#1
  · rw [if_pos h]
    have hi : cfg0.idle 6 (grid0.coords t) = false := by
      show (!(k0_cond2 (grid0.coords t) == 1#1)) = false
      rw [h]; rfl
    have hv : tr (put11 (grid0.coords t) (fun r => Dm m c (512 * t.val + r)) s) = G7 (Dm m c) t.val := by
      funext y
      have h7 := (hcond2 t).mp h
      have hy : (y 1).val < 128 := (y 1).isLt
      exact put11_at (Dm m c) t b s hI ⟨(y 1).val, hy⟩ ⟨(y 0).val, (y 0).isLt⟩ (by dsimp only; omega)
    unfold Dat.leavesExact; rw [hi, vafter6, hv]
  · rw [if_neg h]
    have hi : cfg0.idle 6 (grid0.coords t) = true := by
      show (!(k0_cond2 (grid0.coords t) == 1#1)) = true
      simpa using h
    have hf : (cfg0.win 6).flush t = false := by
      rw [Bool.eq_false_iff]; exact fun hf => h ((hcond2 t).mpr ((flush0_6 t).mp hf))
    rw [Dat.leavesExact_idle (vdats m 0 c) 6 t hi hf]
    iintro H
    iexists d
    iexact H

/-- The body at any point. -/
theorem sound_v (c : Dev nD) (t : Fin cfg0.N) :
    vpre m c t ⊢ wp frame (wpE (defs₀ (F := Ideal)) Variants.none c none) Set.univ (bodyAt0 t) (fun _ => vpost m c t) := by
  unfold vpre vpost bodyAt0
  simp only [vbefore0, vbefore1]
  rw [show (vdats m 0 c).owesAt () t.succ = (vdats m 0 c).owesAt () t.castSucc from rfl,
    show (vdats m 0 c).Φ t.succ = PhiV m c (t.val + 1) from rfl, show (vdats m 0 c).Φ t.castSucc = PhiV m c t.val from rfl,
    show (vdats m 0 c).leavesExact 0 t = owns (c : Thread nD τ) (ms0_0 t) fullShare ((vdats m 0 c).after 0 t) from by
      unfold Dat.leavesExact; rw [liveAt0_0 t], vafter0,
    show (vdats m 0 c).leavesExact 1 t = owns (c : Thread nD τ) (ms0_1 t) fullShare ((vdats m 0 c).after 1 t) from by
      unfold Dat.leavesExact; rw [liveAt0_1 t], vafter1,
    show (vdats m 0 c).leavesExact 3 t = owns (c : Thread nD τ) (ms0_3 t) fullShare ((vdats m 0 c).after 3 t) from by
      unfold Dat.leavesExact; rw [show cfg0.idle 3 (grid0.coords t) = false from rfl], vafter3,
    show (vdats m 0 c).leavesExact 4 t = owns (c : Thread nD τ) (ms0_4 t) fullShare ((vdats m 0 c).after 4 t) from by
      unfold Dat.leavesExact; rw [show cfg0.idle 4 (grid0.coords t) = false from rfl], vafter4,
    show (vdats m 0 c).leavesExact 5 t = owns (c : Thread nD τ) (ms0_5 t) fullShare ((vdats m 0 c).after 5 t) from by
      unfold Dat.leavesExact; rw [show cfg0.idle 5 (grid0.coords t) = false from rfl], vafter5]
  unfold PhiV
  iintro ⟨⟨⟨HS0, HS1, ⟨%b, %s, %hI, HS2, HS3⟩⟩, Hg⟩, Ho, ⟨%d0, H0⟩, ⟨%d1, H1⟩, ⟨%d2, H2⟩, ⟨%d3, H3⟩, ⟨%d4, H4⟩, ⟨%d5, H5⟩, ⟨%d6, H6⟩⟩
  iapply (body c Set.univ (grid0.coords t) _ _ _ _ _ _ _ _ _ _ _ _ _ _ _ _ _ _ _ _ _ _ (iblk m c 0 t) (iblk m c 1 t)
    ((vdats m 0 c).before 2 t d2) ((vdats m 0 c).before 6 t d6) b s _ (fun r => Dm m c (512 * t.val + r)) (Bacc (Dm m c) t.val)
    (hD m c t) (hB (Dm m c) t b s hI))
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexact H6
  isplitl [HS0]; · iexact HS0
  isplitl [HS1]; · iexact HS1
  isplitl [HS2]; · iexact HS2
  isplitl [HS3]; · iexact HS3
  iintro ⟨H0, H1, H2, H3, H4, H5, H6, HS0, HS1, HS2, HS3⟩
  isplitl [HS0 HS1 HS2 HS3 Hg]
  · isplitl [HS0 HS1 HS2 HS3]
    · isplitl [HS0]; · iexact HS0
      isplitl [HS1]; · iexact HS1
      iexists _, _
      isplitr; · ipureintro; exact Inv_succ (Dm m c) t b s hI
      isplitl [HS2]; · iexact HS2
      iexact HS3
    iexact Hg
  isplitl [Ho]; · iexact Ho
  isplitl [H0]; · iexact H0
  isplitl [H1]; · iexact H1
  isplitl [H2]; · iapply (leaves2 m c t d2); iexact H2
  isplitl [H3]; · iexact H3
  isplitl [H4]; · iexact H4
  isplitl [H5]; · iexact H5
  iapply (leaves6 m c t d6 b s hI); iexact H6

/-- The library's body obligation, at every point. -/
theorem v_obligation (c : Dev nD) : BodyObligation (vdats m 0 c) (defs₀ (F := Ideal)) Variants.none () Set.univ := fun t => by
  rw [bigSep_W0, bigSep_W0, defs₀_row]
  exact triple_restated (sound_v m c t) rfl .rfl fun _ => .rfl

theorem v_in (c : Dev nD) : Pipeline.ΦA spec0 c ⊢ (vdats m 0 c).Φ 0 := by
  rw [show (vdats m 0 c).Φ 0 = PhiV m c 0 from rfl, PhiA0_eq]
  unfold PhiV
  iintro ⟨⟨HS0, HS1, ⟨%b, HS2⟩, ⟨%s, HS3⟩⟩, Hg⟩
  isplitl [HS0 HS1 HS2 HS3]
  · isplitl [HS0]; · iexact HS0
    isplitl [HS1]; · iexact HS1
    iexists b, s
    isplitr; · ipureintro; exact ⟨fun h => absurd rfl h, fun p k hp => absurd hp (by omega)⟩
    isplitl [HS2]; · iexact HS2
    iexact HS3
  iexact Hg

theorem v_out (c : Dev nD) : (vdats m 0 c).Φ (Fin.last cfg0.N) ⊢ Pipeline.ΦA spec0 c := by
  rw [show (vdats m 0 c).Φ (Fin.last cfg0.N) = PhiV m c cfg0.N from rfl, PhiA0_eq]
  unfold PhiV
  iintro ⟨⟨HS0, HS1, ⟨%b, %s, -, HS2, HS3⟩⟩, Hg⟩
  isplitl [HS0 HS1 HS2 HS3]
  · isplitl [HS0]; · iexact HS0
    isplitl [HS1]; · iexact HS1
    isplitl [HS2]; · iexists b; iexact HS2
    iexists s; iexact HS3
  iexact Hg

set_option backward.isDefEq.respectTransparency.types false in
set_option maxHeartbeats 800000 in
/-- The run: every window's array at its final contents, and the two host lines' results computed from them. -/
theorem v_run : θ_run defs (onTc (τ := τ) (main (F := Ideal))) (s₀ m ρ)
    (Pipeline.FramePost cfgs (vdats m) 0 (Pipeline.afterTail₀ cfgs (vdats m) 0 (V0 m) [hostOps1])) :=
  Pipeline.θ_run_frame_around_track cfgs (vdats m) (0 : Fin 1) launch0 defs₀ Variants.none m ρ main
    (hbody := fun c => (v_obligation m c).loose) (hshare := fun c => (vdats m 0 c).share_full fun _ => rfl)
    (howed := fun _ _ => rfl) (V₀ := V0 m) (opss := [hostOps1]) (hsub := sfx_sub) (hfresh := sfx_fresh) (hkeep := sfx_keeps)
    (hmain := hmain m Variants.none) (hA := vA_eq m) (hin := v_in m) (hout := v_out m)

end Cert.KernelIdeal.Val

end
-- ==== Proof.KernelResult.lean ====
module

public import proofs.«01_k».proof.Proof.KernelValue

/-! What the kernel leaves in its five results: functions of the gradient's rows and columns. -/

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.Sem
open Idealize.ShloMosaic.Pipeline (Dat Cfg Window)
open Cert.Spec

variable (m : (ℓ : Loc nD τ sig) → Buf (Elt Ideal) ℓ) (ρ : Dev nD → PrngReg)

/-! ## The results -/

def R3 (D : ℕ → ℕ → EReal) : Vec Ideal S73728x1024 .fp8e5m2 := fun i =>
  clip (D (i 0).val (i 1).val * kInv (rowMax D (i 0).val ((i 1).val / 32)))
def R4 (D : ℕ → ℕ → EReal) : Vec Ideal S32x73728 .f32 := fun i => kScale (rowMax D (i 1).val (i 0).val)
def R5 (D : ℕ → ℕ → EReal) : Vec Ideal S1024x73728 .fp8e5m2 := fun i =>
  clip (D (i 1).val (i 0).val * kInv (colMax D ((i 1).val / 32) (i 0).val))
def R6 (D : ℕ → ℕ → EReal) : Vec Ideal S1024x2304 .f32 := fun i => kScale (colMax D (i 1).val (i 0).val)
def R2 (D : ℕ → ℕ → EReal) : Vec Ideal S1x1024 .f32 := fun i => ∑ p : Fin 8, Bacc D 144 p.val (i 1).val

theorem final3 (c : Dev nD) : (vdats m 0 c).arrAt 3 cfg0.N = R3 (Dm m c) := by
  refine (vdats m 0 c).arrAt_eq_of_covers 3 _ (by decide +kernel) fun t hf y => ?_
  have e0 : ((((cfg0.win 3).blk t).view.emb y : S73728x1024.Idx) 0).val = 512 * t.val + (y 0).val := by
    show win0_3.index t 0 * 512 + 1 * (y 0).val = _; rw [(index3 t).1]; omega
  have e1 : ((((cfg0.win 3).blk t).view.emb y : S73728x1024.Idx) 1).val = (y 1).val := by
    show win0_3.index t 1 * 1024 + 1 * (y 1).val = _; rw [(index3 t).2]; omega
  rw [vafter3]
  show clip _ = clip _
  rw [e0, e1]
  rfl

theorem final4 (c : Dev nD) : (vdats m 0 c).arrAt 4 cfg0.N = R4 (Dm m c) := by
  refine (vdats m 0 c).arrAt_eq_of_covers 4 _ (by decide +kernel) fun t hf y => ?_
  have e0 : ((((cfg0.win 4).blk t).view.emb y : S32x73728.Idx) 0).val = (y 0).val := by
    show win0_4.index t 0 * 32 + 1 * (y 0).val = _; rw [(index4 t).1]; omega
  have e1 : ((((cfg0.win 4).blk t).view.emb y : S32x73728.Idx) 1).val = 512 * t.val + (y 1).val := by
    show win0_4.index t 1 * 512 + 1 * (y 1).val = _; rw [(index4 t).2]; omega
  rw [vafter4]
  rw [cast_eq]
  unfold G5 R4
  refine congrArg kScale ?_
  refine Eq.trans ?_ (congrArg₂ (fun a b => rowMax (Dm m c) a b) e1.symm e0.symm)
  rfl

theorem final5 (c : Dev nD) : (vdats m 0 c).arrAt 5 cfg0.N = R5 (Dm m c) := by
  refine (vdats m 0 c).arrAt_eq_of_covers 5 _ (by decide +kernel) fun t hf y => ?_
  have e0 : ((((cfg0.win 5).blk t).view.emb y : S1024x73728.Idx) 0).val = (y 0).val := by
    show win0_5.index t 0 * 1024 + 1 * (y 0).val = _; rw [(index5 t).1]; omega
  have e1 : ((((cfg0.win 5).blk t).view.emb y : S1024x73728.Idx) 1).val = 512 * t.val + (y 1).val := by
    show win0_5.index t 1 * 512 + 1 * (y 1).val = _; rw [(index5 t).2]; omega
  rw [vafter5]
  show clip (Dm m c (512 * t.val + (y 1).val) (y 0).val * kInv (colMax (fun r => Dm m c (512 * t.val + r)) ((y 1).val / 32) (y 0).val)) = clip _
  rw [e0, e1, colMax_shift (Dm m c) t.val _ ((512 * t.val + (y 1).val) / 32) _ (by omega)]

theorem final6 (c : Dev nD) : (vdats m 0 c).arrAt 6 cfg0.N = R6 (Dm m c) := by
  refine (vdats m 0 c).arrAt_eq_of_covers 6 _ (by decide +kernel) fun t hf y => ?_
  have e0 : ((((cfg0.win 6).blk t).view.emb y : S1024x2304.Idx) 0).val = (y 0).val := by
    show win0_6.index t 0 * 1024 + 1 * (y 0).val = _; rw [(index6 t).1]; omega
  have e1 : ((((cfg0.win 6).blk t).view.emb y : S1024x2304.Idx) 1).val = 128 * (t.val / 8) + (y 1).val := by
    show win0_6.index t 1 * 128 + 1 * (y 1).val = _; rw [(index6 t).2]; omega
  rw [vafter6]
  rw [cast_eq]
  unfold G7 R6
  exact congrArg₂ (fun a b => kScale (colMax (Dm m c) a b)) e1.symm e0.symm

theorem final2 (c : Dev nD) : (vdats m 0 c).arrAt 2 cfg0.N = R2 (Dm m c) := by
  refine (vdats m 0 c).arrAt_eq_of_covers 2 _ (by decide +kernel) fun t hf y => ?_
  have ht : t.val = 143 := by have := (flush0_2 t).mp hf; have := tlt t; omega
  have e1 : ((((cfg0.win 2).blk t).view.emb y : S1x1024.Idx) 1).val = (y 1).val := by
    show win0_2.index t 1 * 1024 + 1 * (y 1).val = _; rw [(index2 t).2]; omega
  rw [vafter2, ht]
  show (∑ p : Fin 8, G10 (Bacc (Dm m c) 143) (fun r => Dm m c (512 * 143 + r)) p.val (y 1).val) = ∑ p : Fin 8, Bacc (Dm m c) 144 p.val _
  rw [e1]
  rfl

/-! ## The bias: the sum of all rows -/

theorem Bacc_eq (D : ℕ → ℕ → EReal) (p k : ℕ) : ∀ n : ℕ,
    Bacc D n p k = ∑ j ∈ Finset.range (64 * n), D (8 * j + p) k
  | 0 => by rw [Nat.mul_zero, Finset.range_zero, Finset.sum_empty]; rfl
  | n + 1 => by
    show (Bacc D n p k + ∑ j : Fin 32, D (512 * n + (j.val * 8 + p)) k) + ∑ j : Fin 32, D (512 * n + (256 + (j.val * 8 + p))) k = _
    rw [Bacc_eq D p k n, show 64 * (n + 1) = 64 * n + 32 + 32 by ring, Finset.sum_range_add, Finset.sum_range_add,
      Finset.sum_range (n := 32) (f := fun j => D (8 * (64 * n + j) + p) k),
      Finset.sum_range (n := 32) (f := fun j => D (8 * (64 * n + 32 + j) + p) k)]
    congr 1
    · congr 1
      refine Finset.sum_congr rfl fun j _ => ?_
      rw [show 512 * n + (j.val * 8 + p) = 8 * (64 * n + j.val) + p by ring]
    · refine Finset.sum_congr rfl fun j _ => ?_
      rw [show 512 * n + (256 + (j.val * 8 + p)) = 8 * (64 * n + 32 + j.val) + p by ring]

theorem sum_rows (f : ℕ → EReal) : ∀ n : ℕ,
    ∑ p : Fin 8, ∑ j ∈ Finset.range n, f (8 * j + p.val) = ∑ r ∈ Finset.range (8 * n), f r
  | 0 => by simp
  | n + 1 => by
    rw [show 8 * (n + 1) = 8 * n + 8 by ring, Finset.sum_range_add, ← sum_rows f n,
      Finset.sum_range (n := 8) (f := fun j => f (8 * n + j)), ← Finset.sum_add_distrib]
    refine Finset.sum_congr rfl fun p _ => ?_
    rw [Finset.sum_range_succ]

/-- The bias at column `k`: the sum of that column. -/
theorem bias_eq (D : ℕ → ℕ → EReal) (k : ℕ) :
    ∑ p : Fin 8, Bacc D 144 p.val k = ∑ r : Fin 73728, D r.val k := by
  rw [← Finset.sum_range (n := 73728) (f := fun r => D r k), ← sum_rows (fun r => D r k) 9216]
  exact Finset.sum_congr rfl fun p _ => Bacc_eq D p.val k 144

end Cert.KernelIdeal.Val

end
-- ==== Proof.KernelEnd.lean ====
module

public import proofs.«01_k».proof.Proof.KernelResult
public import Idealize.ShloMosaic.Lib.StableHlo.Run
public import Idealize.ShloMosaic.Lib.Pointwise

/-! The kernel's run with the two host lines after it: the five results as functions of the gradient, the arguments as they
were. -/

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.Sem
open Cert.Spec

variable (m : (ℓ : Loc nD τ sig) → Buf (Elt Ideal) ℓ) (ρ : Dev nD → PrngReg)

/-- The bias: the sum of every row. -/
def Q2 (D : ℕ → ℕ → EReal) : Vec Ideal S1024 .f32 := fun i => ∑ r : Fin 73728, D r.val (i 0).val
/-- The row scales, one row of the array after another. -/
def Q4 (D : ℕ → ℕ → EReal) : Vec Ideal S73728x32 .f32 := fun i => kScale (rowMax D (i 0).val (i 1).val)

theorem cast2 (D : ℕ → ℕ → EReal) : shapeCast S1024 (R2 D) shapeCasts_S1x1024_S1024 = Q2 D := by
  funext y
  obtain ⟨j, rfl⟩ : ∃ j : Fin 1024, y = Idealize.ShloMosaic.ix1 j := ⟨y 0, by funext k; fin_cases k; rfl⟩
  have h : shapeCast S1024 (R2 D) shapeCasts_S1x1024_S1024 (Idealize.ShloMosaic.ix1 j) = R2 D (Idealize.ShloMosaic.ix2 (0 : Fin 1) j) := by
    pointwise
  rw [h]
  exact bias_eq D j.val

theorem transpose4 (D : ℕ → ℕ → EReal) : transpose S73728x32 [1, 0] (R4 D) transposes_S32x73728_S73728x32_1_0 = Q4 D := by
  funext y
  obtain ⟨i, j, rfl⟩ := eta2 (a := 73728) (b := 32) y
  have h : transpose S73728x32 [1, 0] (R4 D) transposes_S32x73728_S73728x32_1_0 (Idealize.ShloMosaic.ix2 i j) = R4 D (Idealize.ShloMosaic.ix2 j i) := by
    pointwise
  rw [h]
  rfl

theorem tail1 (c : Dev nD) : Pipeline.afterTail₀ cfgs (vdats m) 0 (V0 m) [hostOps1] c main_v1 = Q2 (Dm m c) := by
  unfold Pipeline.afterTail₀
  show StableHlo.after [_, _] _ _ = _
  rw [StableHlo.after_cons, StableHlo.after_cons, StableHlo.after_nil,
    StableHlo.unary_result_ne (h := show main_v1 ≠ main_v2 by decide), StableHlo.reshape_result]
  have e := Pipeline.withArrays_arr spec0 launch0.win.arr_inj c (V0 m c) (fun w => (vdats m 0 c).arrAt w cfg0.N) 2
  refine Eq.trans ?_ (cast2 (Dm m c))
  rw [← final2]
  exact congrArg (fun A => shapeCast S1024 (A : Vec Ideal S1x1024 .f32) shapeCasts_S1x1024_S1024) e

theorem tail2 (c : Dev nD) : Pipeline.afterTail₀ cfgs (vdats m) 0 (V0 m) [hostOps1] c main_v2 = Q4 (Dm m c) := by
  unfold Pipeline.afterTail₀
  show StableHlo.after [_, _] _ _ = _
  rw [StableHlo.after_cons, StableHlo.after_cons, StableHlo.after_nil,
    StableHlo.unary_result, StableHlo.reshape_result_ne (h := show main_v0_2 ≠ main_v1 by decide)]
  have e := Pipeline.withArrays_arr spec0 launch0.win.arr_inj c (V0 m c) (fun w => (vdats m 0 c).arrAt w cfg0.N) 4
  refine Eq.trans ?_ (transpose4 (Dm m c))
  rw [← final4]
  exact congrArg (fun A => transpose S73728x32 [1, 0] (A : Vec Ideal S32x73728 .f32) transposes_S32x73728_S73728x32_1_0) e

/-- The run, read. -/
theorem k_run : θ_run defs (onTc (τ := τ) (main (F := Ideal))) ⟨m, fun _ => 0, ρ⟩ (fun r => ∀ c : Dev nD,
      r.2.mem ((c.tc : Thread nD τ).loc main_v1) = Q2 (Dm m c)
      ∧ r.2.mem ((c.tc : Thread nD τ).loc main_v0_1) = R3 (Dm m c)
      ∧ r.2.mem ((c.tc : Thread nD τ).loc main_v2) = Q4 (Dm m c)
      ∧ r.2.mem ((c.tc : Thread nD τ).loc main_v0_3) = R5 (Dm m c)
      ∧ r.2.mem ((c.tc : Thread nD τ).loc main_v0_4) = R6 (Dm m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨
      ((h c).2 main_v1 (Pipeline.mem_restRefs_of main_v1 (by decide) (by decide))).trans (tail1 m c),
      ((h c).1 3).trans (final3 m c),
      ((h c).2 main_v2 (Pipeline.mem_restRefs_of main_v2 (by decide) (by decide))).trans (tail2 m c),
      ((h c).1 5).trans (final5 m c),
      ((h c).1 6).trans (final6 m c),
      ((h c).1 0).trans (((vdats m 0 c).arrAt_in 0 rfl _).trans ((vA_eq m c 0).trans (V_main_arg0 m c))),
      ((h c).1 1).trans (((vdats m 0 c).arrAt_in 1 rfl _).trans ((vA_eq m c 1).trans (V_main_arg1 m c)))⟩) (v_run m ρ)

end Cert.KernelIdeal.Val

end
-- ==== Proof.ReferenceValue.lean ====
module

public import proofs.«01_k».proof.Proof.Gen.ReferenceIdeal.Value
public import proofs.«01_k».proof.Proof.Spec
public import Idealize.ShloMosaic.Lib.Pointwise

/-! The reference's five results over the extended reals, as functions of the gradient's rows and columns. -/

@[expose] public section

set_option maxRecDepth 16384

noncomputable section

namespace Cert.ReferenceIdeal.Val

open Cert.ReferenceIdeal.Gen
open Idealize.ShloMosaic Idealize.ShloMosaic.TcCoe Idealize.ShloMosaic.Tactic
open Cert.Spec

variable (x g : Vec Ideal S73728x1024 .bf16) (D : ℕ → ℕ → EReal)
  (hD : ∀ (i : Fin 73728) (j : Fin 1024), rD (x (Idealize.ShloMosaic.ix2 i j)) (g (Idealize.ShloMosaic.ix2 i j)) = D i.val j.val)

theorem nK : Named.named (F := Ideal) κ "gelu_k" (φ := .f32) 0x3F4C422A#32 = ((Real.sqrt (2 * Real.pi⁻¹) : ℝ) : EReal) := rfl
theorem nC : Named.named (F := Ideal) κ "gelu_c" (φ := .f32) 0x3D372713#32 = ((8943 / 200000 : ℝ) : EReal) := rfl
theorem n3 : Named.named (F := Ideal) κ "three_c" (φ := .f32) 1040801103#32 = ((26829 / 200000 : ℝ) : EReal) := rfl
theorem nI : Named.named (F := Ideal) κ "inv_max" (φ := .f32) 0x37924925#32 = ((1 / 57344 : ℝ) : EReal) := rfl
theorem nL : Named.named (F := Ideal) κ "log_2" (φ := .f32) 0x3F317218#32 = ((Real.log 2 : ℝ) : EReal) := rfl

include hD in
theorem grad_at (i : Fin 73728) (j : Fin 1024) : k0_pay3 (F := Ideal) x g (Idealize.ShloMosaic.ix2 i j) = D i.val j.val := by
  rw [← hD]
  have e : ∀ (a b : EReal), k0_pay3 (F := Ideal) x g (Idealize.ShloMosaic.ix2 i j) = rD (x (Idealize.ShloMosaic.ix2 i j)) (g (Idealize.ShloMosaic.ix2 i j)) := by
    intro _ _
    unfold k0_pay3 rD
    pointwise
    rw [nK, nC, n3]
  exact e 0 0

theorem bias_at (v : FVec Ideal S73728x1024 .f32) (j : Fin 1024) :
    multiReduction .add [0] S1024 v 0x00000000#32 reduces_S73728x1024_S1024 (.inl rfl) rfl (Idealize.ShloMosaic.ix1 j)
      = ∑ r : Fin 73728, v (Idealize.ShloMosaic.ix2 r j) := by
  pointwise

theorem max3_at (v : FVec Ideal S73728x32x32 .f32) (i : Fin 73728) (j : Fin 32) :
    multiReduction .maximumf [2] S73728x32 (absf v) 0xFF800000#32 reduces_S73728x32x32_S73728x32 (.inl rfl) rfl (Idealize.ShloMosaic.ix2 i j)
      = gmax fun k : Fin 32 => v (Idealize.ShloMosaic.ix3 i j k) := by
  unfold gmax
  pointwise
  rfl

theorem cast3_at (v : FVec Ideal S73728x1024 .f32) (i : Fin 73728) (j k : Fin 32) :
    shapeCast S73728x32x32 v shapeCasts_S73728x1024_S73728x32x32 (Idealize.ShloMosaic.ix3 i j k)
      = v (Idealize.ShloMosaic.ix2 i ⟨32 * j.val + k.val, by omega⟩) := by
  pointwise
  simp only [Nat.mul_comm 32]

theorem maxC_at (v : FVec Ideal S2304x32x1024 .f32) (i : Fin 2304) (j : Fin 1024) :
    multiReduction .maximumf [1] S2304x1024 (absf v) 0xFF800000#32 reduces_S2304x32x1024_S2304x1024 (.inl rfl) rfl (Idealize.ShloMosaic.ix2 i j)
      = gmax fun k : Fin 32 => v (Idealize.ShloMosaic.ix3 i k j) := by
  unfold gmax
  pointwise
  rfl

theorem castC_at (v : FVec Ideal S73728x1024 .f32) (i : Fin 2304) (j : Fin 1024) (k : Fin 32) :
    shapeCast S2304x32x1024 v shapeCasts_S73728x1024_S2304x32x1024 (Idealize.ShloMosaic.ix3 i k j)
      = v (Idealize.ShloMosaic.ix2 ⟨32 * i.val + k.val, by omega⟩ j) := by
  pointwise
  simp only [Nat.mul_comm 32]

theorem expR_at (f l : FVec Ideal S73728x32 .f32) (i : Fin 73728) (j : Fin 32) :
    k0_pay8 (F := Ideal) f l (Idealize.ShloMosaic.ix2 i j)
      = if f (Idealize.ShloMosaic.ix2 i j) < Ideal.ofBits .f32 0x00800000#32 then 0
        else Ideal.liftRound Int.floor (l (Idealize.ShloMosaic.ix2 i j)) + 1 := by
  unfold k0_pay8
  pointwise

theorem codesR_at (v : FVec Ideal S73728x32x32 .f32) (f l : FVec Ideal S73728x32 .f32) (i : Fin 73728) (j : Fin 1024) :
    k0_pay9 (F := Ideal) v f l (Idealize.ShloMosaic.ix2 i j)
      = clip (v (Idealize.ShloMosaic.ix3 i ⟨j.val / 32, by omega⟩ ⟨j.val % 32, by omega⟩)
          * Ideal.exp2 (0 - k0_pay8 (F := Ideal) f l (Idealize.ShloMosaic.ix2 i ⟨j.val / 32, by omega⟩))) := by
  unfold k0_pay9 clip
  generalize k0_pay8 (F := Ideal) f l = e
  pointwise
  rfl

theorem codesC_at (v : FVec Ideal S2304x32x1024 .f32) (e : FVec Ideal S2304x1x1024 .f32) (j : Fin 1024) (i : Fin 73728) :
    k0_pay1 (F := Ideal) v e (Idealize.ShloMosaic.ix2 j i)
      = clip (v (Idealize.ShloMosaic.ix3 ⟨i.val / 32, by omega⟩ ⟨i.val % 32, by omega⟩ j)
          * e (Idealize.ShloMosaic.ix3 ⟨i.val / 32, by omega⟩ (0 : Fin 1) j)) := by
  unfold k0_pay1 clip
  pointwise

theorem invC_at (e : FVec Ideal S2304x1024 .f32) (i : Fin 2304) (j : Fin 1024) :
    shapeCast S2304x1x1024 (exp2 (subf (broadcast S2304x1024 (Scalar.ofBits .f32 0x00000000#32)) e)) shapeCasts_S2304x1024_S2304x1x1024
        (Idealize.ShloMosaic.ix3 i (0 : Fin 1) j)
      = Ideal.exp2 (0 - e (Idealize.ShloMosaic.ix2 i j)) := by
  pointwise
  rfl

theorem pay13_at (v : FVec Ideal S73728x1024 .f32) (i : Fin 2304) (j : Fin 1024) :
    k0_pay13 (F := Ideal) v (Idealize.ShloMosaic.ix3 i (0 : Fin 1) j)
      = Ideal.exp2 (0 - k0_pay12 (F := Ideal) v (Idealize.ShloMosaic.ix2 i j)) := by
  unfold k0_pay13
  exact invC_at _ i j

theorem kF_mul (w : FVec Ideal S73728x32 .f32) (i : Fin 73728) (j : Fin 32) :
    mulf w (broadcast S73728x32 (Named.named (F := Ideal) κ "inv_max" (φ := .f32) 0x37924925#32)) (Idealize.ShloMosaic.ix2 i j)
      = kF (w (Idealize.ShloMosaic.ix2 i j)) := by
  rw [nI]
  unfold kF
  pointwise

theorem pay6_at (i : Fin 73728) (j : Fin 32) :
    k0_pay6 (F := Ideal) x g (Idealize.ShloMosaic.ix2 i j)
      = kF (gmax fun k : Fin 32 => k0_pay3 (F := Ideal) x g (Idealize.ShloMosaic.ix2 i ⟨32 * j.val + k.val, by omega⟩)) := by
  unfold k0_pay6 k0_pay5
  refine (kF_mul _ i j).trans (congrArg kF ?_)
  refine (max3_at _ i j).trans (congrArg gmax ?_)
  funext k
  exact cast3_at _ i j k

theorem log_at (w : FVec Ideal S73728x32 .f32) (i : Fin 73728) (j : Fin 32) :
    divf (log w) (broadcast S73728x32 (Named.named (F := Ideal) κ "log_2" (φ := .f32) 0x3F317218#32)) (Idealize.ShloMosaic.ix2 i j)
      = Ideal.div (Ideal.log (w (Idealize.ShloMosaic.ix2 i j))) ((Real.log 2 : ℝ) : EReal) := by
  rw [nL]
  pointwise

theorem pay7_at (i : Fin 73728) (j : Fin 32) :
    k0_pay7 (F := Ideal) x g (Idealize.ShloMosaic.ix2 i j)
      = Ideal.div (Ideal.log (k0_pay6 (F := Ideal) x g (Idealize.ShloMosaic.ix2 i j))) ((Real.log 2 : ℝ) : EReal) := by
  unfold k0_pay7
  exact log_at _ i j

theorem kFC_mul (w : FVec Ideal S2304x1024 .f32) (i : Fin 2304) (j : Fin 1024) :
    mulf w (broadcast S2304x1024 (Named.named (F := Ideal) κ "inv_max" (φ := .f32) 0x37924925#32)) (Idealize.ShloMosaic.ix2 i j)
      = kF (w (Idealize.ShloMosaic.ix2 i j)) := by
  rw [nI]
  unfold kF
  pointwise

theorem expC_at (f : FVec Ideal S2304x1024 .f32) (i : Fin 2304) (j : Fin 1024) :
    select (cmpf .olt f (broadcast S2304x1024 (Scalar.ofBits .f32 0x00800000#32))) (broadcast S2304x1024 (Scalar.ofBits .f32 0x00000000#32))
        (addf (floor (divf (log f) (broadcast S2304x1024 (Named.named (F := Ideal) κ "log_2" (φ := .f32) 0x3F317218#32))))
          (broadcast S2304x1024 (Scalar.ofBits .f32 0x3F800000#32))) (Idealize.ShloMosaic.ix2 i j)
      = rExp (f (Idealize.ShloMosaic.ix2 i j)) := by
  rw [nL]
  unfold rExp
  pointwise

theorem pay12_at (v : FVec Ideal S73728x1024 .f32) (i : Fin 2304) (j : Fin 1024) :
    k0_pay12 (F := Ideal) v (Idealize.ShloMosaic.ix2 i j)
      = rExp (kF (gmax fun k : Fin 32 => v (Idealize.ShloMosaic.ix2 ⟨32 * i.val + k.val, by omega⟩ j))) := by
  unfold k0_pay12 k0_pay11
  refine (expC_at _ i j).trans (congrArg rExp ((kFC_mul _ i j).trans (congrArg kF ?_)))
  refine (maxC_at _ i j).trans (congrArg gmax ?_)
  funext k
  exact castC_at v i j k

/-! ## The five results -/

theorem pay14_eq : k0_pay14 (F := Ideal) x g = k0_pay3 (F := Ideal) x g := by
  unfold k0_pay14
  rw [View.ld_unit_zero (S := S73728x1024) Cert.ReferenceIdeal.Value.hz0 _ x, View.ld_unit_zero (S := S73728x1024) Cert.ReferenceIdeal.Value.hz0 _ g]
theorem pay15_eq : k0_pay15 (F := Ideal) x g = k0_pay6 (F := Ideal) x g := by
  unfold k0_pay15
  rw [View.ld_unit_zero (S := S73728x1024) Cert.ReferenceIdeal.Value.hz0 _ x, View.ld_unit_zero (S := S73728x1024) Cert.ReferenceIdeal.Value.hz0 _ g]
theorem pay16_eq : k0_pay16 (F := Ideal) x g = k0_pay7 (F := Ideal) x g := by
  unfold k0_pay16
  rw [View.ld_unit_zero (S := S73728x1024) Cert.ReferenceIdeal.Value.hz0 _ x, View.ld_unit_zero (S := S73728x1024) Cert.ReferenceIdeal.Value.hz0 _ g]

include hD in
theorem ref2 : Cert.ReferenceIdeal.Value.G2 (F := Ideal) x g = fun y => ∑ r : Fin 73728, D r.val (y 0).val := by
  funext y
  obtain ⟨j, rfl⟩ : ∃ j : Fin 1024, y = Idealize.ShloMosaic.ix1 j := ⟨y 0, by funext k; fin_cases k; rfl⟩
  show k0_pay4 (F := Ideal) x g _ = _
  unfold k0_pay4
  refine (bias_at _ j).trans ?_
  exact Finset.sum_congr rfl fun r _ => grad_at x g D hD r j

include hD in
theorem rowE (i : Fin 73728) (j : Fin 32) :
    k0_pay8 (F := Ideal) (k0_pay6 (F := Ideal) x g) (k0_pay7 (F := Ideal) x g) (Idealize.ShloMosaic.ix2 i j)
      = rExp (kF (rowMax D i.val j.val)) := by
  rw [expR_at, pay7_at, pay6_at x g i j]
  rw [show (gmax fun k : Fin 32 => k0_pay3 (F := Ideal) x g (Idealize.ShloMosaic.ix2 i ⟨32 * j.val + k.val, by omega⟩)) = rowMax D i.val j.val from
    congrArg gmax (funext fun k => grad_at x g D hD i _)]
  rfl

include hD in
theorem colE (i : Fin 2304) (j : Fin 1024) :
    k0_pay12 (F := Ideal) (k0_pay3 (F := Ideal) x g) (Idealize.ShloMosaic.ix2 i j) = rExp (kF (colMax D i.val j.val)) := by
  rw [pay12_at]
  exact congrArg (fun a => rExp (kF a)) (congrArg gmax (funext fun k => grad_at x g D hD _ j))

include hD in
theorem ref3 : Cert.ReferenceIdeal.Value.G3 (F := Ideal) x g
    = fun y => clip (D (y 0).val (y 1).val * rInv (rowMax D (y 0).val ((y 1).val / 32))) := by
  funext y
  obtain ⟨i, j, rfl⟩ : ∃ (i : Fin 73728) (j : Fin 1024), y = Idealize.ShloMosaic.ix2 i j := ⟨y 0, y 1, by funext k; fin_cases k <;> rfl⟩
  show k0_pay9 (F := Ideal) (k0_pay5 (F := Ideal) x g) (k0_pay15 (F := Ideal) x g) (k0_pay16 (F := Ideal) x g) _ = _
  rw [pay15_eq, pay16_eq, codesR_at, rowE x g D hD]
  unfold k0_pay5
  rw [cast3_at, grad_at x g D hD]
  show clip (D i.val (32 * (j.val / 32) + j.val % 32) * Ideal.exp2 (0 - rExp (kF (rowMax D i.val (j.val / 32))))) = clip (D i.val j.val * rInv (rowMax D i.val (j.val / 32)))
  rw [Nat.div_add_mod]
  rfl

theorem pay10_at (f l : FVec Ideal S73728x32 .f32) (i : Fin 73728) (j : Fin 32) :
    k0_pay10 (F := Ideal) f l (Idealize.ShloMosaic.ix2 i j) = Ideal.exp2 (k0_pay8 (F := Ideal) f l (Idealize.ShloMosaic.ix2 i j)) := by
  unfold k0_pay10
  generalize k0_pay8 (F := Ideal) f l = e
  rfl

include hD in
theorem ref4 : Cert.ReferenceIdeal.Value.G4 (F := Ideal) x g = fun y => rScale (rowMax D (y 0).val (y 1).val) := by
  funext y
  obtain ⟨i, j, rfl⟩ : ∃ (i : Fin 73728) (j : Fin 32), y = Idealize.ShloMosaic.ix2 i j := ⟨y 0, y 1, by funext k; fin_cases k <;> rfl⟩
  show k0_pay10 (F := Ideal) (k0_pay15 (F := Ideal) x g) (k0_pay16 (F := Ideal) x g) _ = _
  rw [pay15_eq, pay16_eq, pay10_at, rowE x g D hD]
  rfl

include hD in
theorem ref5 : Cert.ReferenceIdeal.Value.G5 (F := Ideal) x g
    = fun y => clip (D (y 1).val (y 0).val * rInv (colMax D ((y 1).val / 32) (y 0).val)) := by
  funext y
  obtain ⟨j, i, rfl⟩ : ∃ (j : Fin 1024) (i : Fin 73728), y = Idealize.ShloMosaic.ix2 j i := ⟨y 0, y 1, by funext k; fin_cases k <;> rfl⟩
  show k0_pay1 (F := Ideal) (k0_pay11 (k0_pay14 (F := Ideal) x g)) (k0_pay13 (k0_pay14 (F := Ideal) x g)) _ = _
  rw [pay14_eq, codesC_at, pay13_at, colE x g D hD]
  unfold k0_pay11
  rw [castC_at, grad_at x g D hD]
  show clip (D (32 * (i.val / 32) + i.val % 32) j.val * Ideal.exp2 (0 - rExp (kF (colMax D (i.val / 32) j.val)))) = clip (D i.val j.val * rInv (colMax D (i.val / 32) j.val))
  rw [Nat.div_add_mod]
  rfl

theorem expT_at (e : FVec Ideal S2304x1024 .f32) (j : Fin 1024) (i : Fin 2304) :
    k0_pay2 (F := Ideal) e (Idealize.ShloMosaic.ix2 j i) = Ideal.exp2 (e (Idealize.ShloMosaic.ix2 i j)) := by
  unfold k0_pay2
  pointwise
  rfl

include hD in
theorem ref6 : Cert.ReferenceIdeal.Value.G6 (F := Ideal) x g = fun y => rScale (colMax D (y 1).val (y 0).val) := by
  funext y
  obtain ⟨j, i, rfl⟩ : ∃ (j : Fin 1024) (i : Fin 2304), y = Idealize.ShloMosaic.ix2 j i := ⟨y 0, y 1, by funext k; fin_cases k <;> rfl⟩
  show k0_pay2 (F := Ideal) (k0_pay12 (k0_pay14 (F := Ideal) x g)) _ = _
  rw [pay14_eq, expT_at, colE x g D hD]
  rfl

end Cert.ReferenceIdeal.Val

end
-- ==== Proof.Scalar.lean ====
module

public import proofs.«01_k».proof.Proof.Spec

/-! The kernel's gradient and scale are the problem's: the gradient at every extended real, the scale wherever the ratio that
it is made from is below two to the 126. -/

@[expose] public section

noncomputable section

namespace Cert.Spec

open Idealize.ShloMosaic

/-! ## The gradient -/

theorem ofBits_half : Ideal.ofBits .f32 0x3F000000#32 = ((1 / 2 : ℝ) : EReal) := by
  simp [Ideal.ofBits, Ideal.ieee, -EReal.coe_mul]; norm_num

/-- The constant of the activation, the square root of two over pi. -/
theorem K_pos : 0 < Real.sqrt (2 * Real.pi⁻¹) := Real.sqrt_pos.mpr (by positivity)

/-- The gradient's factor at a real number. -/
def dR (x : ℝ) : ℝ :=
  1 / 2 * (1 + Real.tanh (Real.sqrt (2 * Real.pi⁻¹) * (x + 8943 / 200000 * x * (x * x))))
    + 1 / 2 * x * (1 - Real.tanh (Real.sqrt (2 * Real.pi⁻¹) * (x + 8943 / 200000 * x * (x * x)))
        * Real.tanh (Real.sqrt (2 * Real.pi⁻¹) * (x + 8943 / 200000 * x * (x * x))))
      * Real.sqrt (2 * Real.pi⁻¹) * (1 + 26829 / 200000 * (x * x))

theorem rD_coe (x g : ℝ) : rD (x : EReal) (g : EReal) = ((g * dR x : ℝ) : EReal) := by
  unfold rD dR
  rw [ofBits_half]
  simp only [← EReal.coe_mul, ← EReal.coe_add, ← EReal.coe_sub, ← EReal.coe_one, Ideal.tanh_coe]

theorem kD_coe (x g : ℝ) : kD (x : EReal) (g : EReal) = ((g * dR x : ℝ) : EReal) := by
  unfold kD dR
  rw [ofBits_half]
  simp only [← EReal.coe_mul, ← EReal.coe_add, ← EReal.coe_sub, ← EReal.coe_one, Ideal.tanh_coe]
  congr 1
  generalize Real.sqrt (2 * Real.pi⁻¹) = K
  rw [show x * (K + K * (8943 / 200000) * (x * x)) = K * (x + 8943 / 200000 * x * (x * x)) by ring]
  generalize Real.tanh (K * (x + 8943 / 200000 * x * (x * x))) = t
  ring

theorem rD_top (g : ℝ) : rD ⊤ (g : EReal) = (g : EReal) := by
  have hK := K_pos
  unfold rD
  rw [ofBits_half]
  generalize Real.sqrt (2 * Real.pi⁻¹) = K at hK
  have e1 : ((8943 / 200000 : ℝ) : EReal) * ⊤ = ⊤ := EReal.coe_mul_top_of_pos (by norm_num)
  have e2 : (K : EReal) * ⊤ = ⊤ := EReal.coe_mul_top_of_pos hK
  have e3 : (1 : EReal) - 1 * 1 = 0 := by
    rw [mul_one, ← EReal.coe_one, ← EReal.coe_sub]; norm_num
  have e4 : ((1 / 2 : ℝ) : EReal) * (1 + 1) = 1 := by
    rw [← EReal.coe_one, ← EReal.coe_add, ← EReal.coe_mul]; norm_num
  rw [e1, EReal.top_mul_top, EReal.top_mul_top, EReal.top_add_top, e2, Ideal.tanh_top, e3, mul_zero, zero_mul, zero_mul, e4,
    add_zero, mul_one]

theorem rD_bot (g : ℝ) : rD ⊥ (g : EReal) = 0 := by
  have hK := K_pos
  unfold rD
  rw [ofBits_half]
  generalize Real.sqrt (2 * Real.pi⁻¹) = K at hK
  have e1 : ((8943 / 200000 : ℝ) : EReal) * ⊥ = ⊥ := EReal.coe_mul_bot_of_pos (by norm_num)
  have e2 : (K : EReal) * ⊥ = ⊥ := EReal.coe_mul_bot_of_pos hK
  have e3 : (1 : EReal) - -1 * -1 = 0 := by
    rw [neg_mul_neg, mul_one, ← EReal.coe_one, ← EReal.coe_sub]; norm_num
  have e4 : (1 : EReal) + -1 = 0 := by
    rw [← EReal.coe_one, ← EReal.coe_neg, ← EReal.coe_add]; norm_num
  rw [e1, EReal.bot_mul_bot, EReal.bot_mul_top, EReal.bot_add, e2, Ideal.tanh_bot, e3, e4]
  simp

theorem kD_top (g : ℝ) : kD ⊤ (g : EReal) = (g : EReal) := by
  have hK := K_pos
  unfold kD
  rw [ofBits_half]
  generalize Real.sqrt (2 * Real.pi⁻¹) = K at hK
  have e1 : ((K * (8943 / 200000) : ℝ) : EReal) * ⊤ = ⊤ := EReal.coe_mul_top_of_pos (by positivity)
  have e3 : (1 : EReal) - 1 = 0 := by
    rw [← EReal.coe_one, ← EReal.coe_sub]; norm_num
  have e4 : (1 + 1 : EReal) * ((1 / 2 : ℝ) : EReal) = 1 := by
    rw [← EReal.coe_one, ← EReal.coe_add, ← EReal.coe_mul]; norm_num
  rw [EReal.top_mul_top, e1, EReal.coe_add_top, EReal.top_mul_top, Ideal.tanh_top, e3, zero_mul, add_zero, e4, one_mul]

theorem kD_bot (g : ℝ) : kD ⊥ (g : EReal) = 0 := by
  have hK := K_pos
  unfold kD
  rw [ofBits_half]
  generalize Real.sqrt (2 * Real.pi⁻¹) = K at hK
  have e1 : ((K * (8943 / 200000) : ℝ) : EReal) * ⊤ = ⊤ := EReal.coe_mul_top_of_pos (by positivity)
  have e4 : (1 : EReal) + -1 = 0 := by
    rw [← EReal.coe_one, ← EReal.coe_neg, ← EReal.coe_add]; norm_num
  rw [EReal.bot_mul_bot, e1, EReal.coe_add_top, EReal.bot_mul_top, Ideal.tanh_bot, e4, zero_mul, zero_mul]

/-- The two gradients agree wherever the incoming gradient is a real number. -/
theorem kD_eq_rD (x : EReal) (g : ℝ) : kD x (g : EReal) = rD x (g : EReal) := by
  induction x with
  | bot => rw [kD_bot, rD_bot]
  | top => rw [kD_top, rD_top]
  | coe x => rw [kD_coe, rD_coe]

/-! ## The gradient is bounded -/

theorem one_sub_tanh_sq (y : ℝ) : 1 - Real.tanh y * Real.tanh y = 1 / (1 + Real.sinh y ^ 2) := by
  have hc := Real.cosh_pos y
  have h := Real.cosh_sq y
  rw [Real.tanh_eq_sinh_div_cosh, add_comm, ← h]
  field_simp
  linarith

theorem abs_mul_sech_le (y : ℝ) : |y| * (1 - Real.tanh y * Real.tanh y) ≤ 1 / 2 := by
  rw [one_sub_tanh_sq]
  have h1 : |y| ≤ |Real.sinh y| := by
    rw [Real.abs_sinh]; exact Real.self_le_sinh_iff.mpr (abs_nonneg y)
  have h2 : 0 < 1 + Real.sinh y ^ 2 := by positivity
  rw [mul_one_div, div_le_iff₀ h2]
  have h3 : Real.sinh y ^ 2 = |Real.sinh y| ^ 2 := (sq_abs _).symm
  nlinarith [sq_nonneg (|Real.sinh y| - 1)]

theorem dR_abs_le (x : ℝ) : |dR x| ≤ 2 := by
  have hK := K_pos
  unfold dR
  generalize Real.sqrt (2 * Real.pi⁻¹) = K at hK
  generalize hy : K * (x + 8943 / 200000 * x * (x * x)) = y
  have h1 := abs_mul_sech_le y
  have hs : 0 < 1 - Real.tanh y * Real.tanh y := by rw [one_sub_tanh_sq]; positivity
  have ht : |Real.tanh y| ≤ 1 := by
    rw [abs_le]
    constructor <;> nlinarith [sq_nonneg (Real.tanh y + 1), sq_nonneg (Real.tanh y - 1)]
  generalize Real.tanh y = t at h1 hs ht
  have h2 : |x * K * (1 + 26829 / 200000 * (x * x))| ≤ 3 * |y| := by
    have e : x * K * (1 + 26829 / 200000 * (x * x)) = (K * (1 + 26829 / 200000 * (x * x))) * x := by ring
    have e' : y = (K * (1 + 8943 / 200000 * (x * x))) * x := by rw [← hy]; ring
    have p (c : ℝ) (hc : 0 ≤ c) : 0 ≤ K * (1 + c * (x * x)) := mul_nonneg hK.le (by nlinarith [mul_nonneg hc (mul_self_nonneg x)])
    rw [e, e', abs_mul, abs_mul _ x, abs_of_nonneg (p _ (by norm_num)), abs_of_nonneg (p _ (by norm_num)),
      ← mul_assoc 3 (K * _) |x|]
    refine mul_le_mul_of_nonneg_right ?_ (abs_nonneg x)
    nlinarith [mul_nonneg hK.le (mul_self_nonneg x)]
  have h3 : |1 / 2 * x * (1 - t * t) * K * (1 + 26829 / 200000 * (x * x))| ≤ 3 / 4 := by
    have e : 1 / 2 * x * (1 - t * t) * K * (1 + 26829 / 200000 * (x * x)) = (1 / 2 * (1 - t * t)) * (x * K * (1 + 26829 / 200000 * (x * x))) := by ring
    rw [e, abs_mul, abs_of_pos (by positivity)]
    calc 1 / 2 * (1 - t * t) * |x * K * (1 + 26829 / 200000 * (x * x))| ≤ 1 / 2 * (1 - t * t) * (3 * |y|) :=
          mul_le_mul_of_nonneg_left h2 (by positivity)
      _ = 3 / 2 * (|y| * (1 - t * t)) := by ring
      _ ≤ 3 / 4 := by linarith
  have h4 := abs_le.mp h3
  have h5 := abs_le.mp ht
  rw [abs_le]
  constructor <;> linarith [h4.1, h4.2, h5.1, h5.2]

/-- The gradient is a real number at most twice the incoming gradient. -/
theorem rD_bounded (x : EReal) (g M : ℝ) (hg : |g| ≤ M) : ∃ d : ℝ, rD x (g : EReal) = (d : EReal) ∧ |d| ≤ 2 * M := by
  have hM : 0 ≤ M := (abs_nonneg g).trans hg
  induction x with
  | bot => exact ⟨0, by rw [rD_bot]; rfl, by rw [abs_zero]; linarith⟩
  | top => exact ⟨g, rD_top g, by linarith⟩
  | coe x =>
    refine ⟨g * dR x, rD_coe x g, ?_⟩
    rw [abs_mul, mul_comm]
    exact mul_le_mul (dR_abs_le x) hg (abs_nonneg g) (by norm_num)

/-! ## The greatest magnitude of a group -/

theorem ofBits_ninf : Ideal.ofBits .f32 0xFF800000#32 = ⊥ := by
  simp [Ideal.ofBits, Ideal.ieee]

theorem gmax_bounded (f : Fin 32 → EReal) (B : ℝ) (hf : ∀ k, ∃ d : ℝ, f k = (d : EReal) ∧ |d| ≤ B) :
    ∃ a : ℝ, gmax f = (a : EReal) ∧ 0 ≤ a ∧ a ≤ B := by
  have hu : gmax f ≤ (B : EReal) := by
    unfold gmax
    rw [ofBits_ninf, Finset.fold_max_le]
    refine ⟨bot_le, fun k _ => ?_⟩
    obtain ⟨d, hd, hB⟩ := hf k
    rw [hd, ← EReal.coe_neg, max_le_iff, EReal.coe_le_coe_iff, EReal.coe_le_coe_iff]
    exact ⟨(le_abs_self d).trans hB, (neg_le_abs d).trans hB⟩
  have hl : ((0 : ℝ) : EReal) ≤ gmax f := by
    unfold gmax
    rw [Finset.le_fold_max]
    right
    refine ⟨0, Finset.mem_univ _, ?_⟩
    obtain ⟨d, hd, _⟩ := hf 0
    rw [hd, ← EReal.coe_neg, le_max_iff, EReal.coe_le_coe_iff, EReal.coe_le_coe_iff]
    rcases le_total 0 d with h | h
    · exact .inl h
    · exact .inr (by linarith)
  induction hg : gmax f with
  | bot => rw [hg] at hl; exact absurd hl (not_le.mpr (EReal.bot_lt_coe 0))
  | top => rw [hg] at hu; exact absurd hu (not_le.mpr (EReal.coe_lt_top B))
  | coe a =>
    rw [hg] at hl hu
    exact ⟨a, rfl, EReal.coe_le_coe_iff.mp hl, EReal.coe_le_coe_iff.mp hu⟩

/-! ## The search for the exponent -/

/-- The number whose exponent field is `N` and whose other bits are zero. -/
def fieldVal (N : ℕ) : EReal := Ideal.ofBits .f32 (BitVec.ofNat 32 (N * 8388608))

theorem fieldVal_zero : fieldVal 0 = 0 := Ideal.ofBits_zero_f32

theorem field_toNat (N : ℕ) (h : N ≤ 255) : (BitVec.ofNat 32 (N * 8388608)).toNat = N * 8388608 := by
  rw [BitVec.toNat_ofNat]; omega

theorem fieldVal_top : fieldVal 255 = ⊤ := by
  simp [fieldVal, Ideal.ofBits, Ideal.ieee]

theorem fieldVal_mid (N : ℕ) (h1 : 1 ≤ N) (h2 : N ≤ 254) : fieldVal N = (((2 : ℝ) ^ ((N : ℤ) - 127) : ℝ) : EReal) := by
  have hs : ((BitVec.ofNat 32 (N * 8388608)).extractLsb' (8 + 23) 1).toNat = 0 := by
    rw [BitVec.extractLsb'_toNat, field_toNat N (by omega), Nat.shiftRight_eq_div_pow]; omega
  have he : ((BitVec.ofNat 32 (N * 8388608)).extractLsb' 23 8).toNat = N := by
    rw [BitVec.extractLsb'_toNat, field_toNat N (by omega), Nat.shiftRight_eq_div_pow]; omega
  have hf : ((BitVec.ofNat 32 (N * 8388608)).extractLsb' 0 23).toNat = 0 := by
    rw [BitVec.extractLsb'_toNat, field_toNat N (by omega), Nat.shiftRight_eq_div_pow]; omega
  have hn : ((BitVec.ofNat 32 (N * 8388608)).extractLsb' (8 + 23) 1 == 1#1) = false := by
    rw [beq_eq_false_iff_ne]
    intro h
    rw [h] at hs
    exact absurd hs (by decide)
  unfold fieldVal Ideal.ofBits Ideal.ieee
  dsimp only
  rw [hn, he, hf, if_neg (by omega), if_neg (by omega)]
  congr 1
  rw [if_neg (by decide), one_mul, Nat.add_zero]
  push_cast
  rw [show ((N : ℤ) - 127) = 23 + ((N : ℤ) - 127 - 23) by ring, zpow_add₀ (by norm_num : (2 : ℝ) ≠ 0)]
  norm_num

theorem kStep_spec (f : EReal) (N w : ℕ) (h : N + 2 * w ≤ 256) (hlo : fieldVal N ≤ f)
    (hhi : N + 2 * w < 256 → f < fieldVal (N + 2 * w)) :
    ∃ N', kStep f (BitVec.ofNat 32 (w * 8388608)) (BitVec.ofNat 32 (N * 8388608)) = BitVec.ofNat 32 (N' * 8388608)
      ∧ N' + w ≤ 256 ∧ fieldVal N' ≤ f ∧ (N' + w < 256 → f < fieldVal (N' + w)) := by
  have e : BitVec.ofNat 32 (N * 8388608) + BitVec.ofNat 32 (w * 8388608) = BitVec.ofNat 32 ((N + w) * 8388608) := by
    rw [← BitVec.ofNat_add, Nat.add_mul]
  unfold kStep
  rw [e]
  by_cases hc : Ideal.ofBits .f32 (BitVec.ofNat 32 ((N + w) * 8388608)) ≤ f
  · rw [if_pos hc]
    refine ⟨N + w, rfl, by omega, hc, fun hh => ?_⟩
    rw [show N + w + w = N + 2 * w by ring]
    exact hhi (by omega)
  · rw [if_neg hc]
    exact ⟨N, rfl, by omega, hlo, fun _ => not_le.mp hc⟩

/-- The search ends at the greatest field whose number `f` reaches. -/
theorem kField_spec (f : EReal) (hf : 0 ≤ f) :
    ∃ N, kField f = BitVec.ofNat 32 (N * 8388608) ∧ N ≤ 255 ∧ fieldVal N ≤ f ∧ (N < 255 → f < fieldVal (N + 1)) := by
  obtain ⟨a, ha, ha1, ha2, ha3⟩ := kStep_spec f 0 128 (by norm_num) (by rw [fieldVal_zero]; exact hf) (by norm_num)
  obtain ⟨b, hb, hb1, hb2, hb3⟩ := kStep_spec f a 64 (by omega) ha2 ha3
  obtain ⟨c, hc, hc1, hc2, hc3⟩ := kStep_spec f b 32 (by omega) hb2 hb3
  obtain ⟨d, hd, hd1, hd2, hd3⟩ := kStep_spec f c 16 (by omega) hc2 hc3
  obtain ⟨e, he, he1, he2, he3⟩ := kStep_spec f d 8 (by omega) hd2 hd3
  obtain ⟨p, hp, hp1, hp2, hp3⟩ := kStep_spec f e 4 (by omega) he2 he3
  obtain ⟨q, hq, hq1, hq2, hq3⟩ := kStep_spec f p 2 (by omega) hp2 hp3
  obtain ⟨r, hr, hr1, hr2, hr3⟩ := kStep_spec f q 1 (by omega) hq2 hq3
  refine ⟨r, ?_, by omega, hr2, fun h => hr3 (by omega)⟩
  unfold kField
  rw [← hr, ← hq, ← hp, ← he, ← hd, ← hc, ← hb, ← ha]

theorem ofNat_inj (a b : ℕ) (ha : a ≤ 255) (hb : b ≤ 255) :
    BitVec.ofNat 32 (a * 8388608) = BitVec.ofNat 32 (b * 8388608) ↔ a = b := by
  constructor
  · intro h
    have := congrArg BitVec.toNat h
    rw [field_toNat a ha, field_toNat b hb] at this
    omega
  · rintro rfl; rfl

/-! ## The scale -/

theorem two_zpow_le (a b : ℤ) : (2 : ℝ) ^ a ≤ (2 : ℝ) ^ b ↔ a ≤ b := zpow_le_zpow_iff_right₀ (by norm_num)

/-- The exponent of a normal number, from the field that the search finds. -/
theorem rExp_mid (f : ℝ) (N : ℕ) (h1 : 1 ≤ N) (h2 : N ≤ 253) (hlo : (2 : ℝ) ^ ((N : ℤ) - 127) ≤ f) (hhi : f < (2 : ℝ) ^ ((N : ℤ) - 126)) :
    rExp (f : EReal) = (((N : ℝ) - 126 : ℝ) : EReal) := by
  have hf : 0 < f := lt_of_lt_of_le (by positivity) hlo
  have hl2 : 0 < Real.log 2 := Real.log_pos (by norm_num)
  have hn : ¬ ((f : EReal) < Ideal.ofBits .f32 0x00800000#32) := by
    rw [show Ideal.ofBits .f32 0x00800000#32 = fieldVal 1 from rfl, fieldVal_mid 1 le_rfl (by norm_num), EReal.coe_lt_coe_iff, not_lt]
    refine le_trans ?_ hlo
    rw [two_zpow_le]; push_cast; omega
  unfold rExp
  rw [if_neg hn, Ideal.log_coe, if_neg (not_le.mpr hf), Ideal.div_coe hl2.ne', ← EReal.coe_mul, Ideal.liftRound_coe, ← EReal.coe_one, ← EReal.coe_add]
  have hfl : ⌊Real.log f * (1 / Real.log 2)⌋ = (N : ℤ) - 127 := by
    rw [Int.floor_eq_iff, mul_one_div, le_div_iff₀ hl2, div_lt_iff₀ hl2]
    constructor
    · rw [← Real.log_zpow]; exact Real.log_le_log (by positivity) hlo
    · have : ((((N : ℤ) - 127 : ℤ) : ℝ) + 1) * Real.log 2 = Real.log ((2 : ℝ) ^ ((N : ℤ) - 126)) := by
        rw [Real.log_zpow]; push_cast; ring
      rw [this]; exact Real.log_lt_log hf hhi
  rw [hfl]
  congr 1
  push_cast
  ring

theorem exp2_int (z : ℤ) : Ideal.exp2 (((z : ℝ)) : EReal) = (((2 : ℝ) ^ z : ℝ) : EReal) := by
  rw [Ideal.exp2_coe]
  exact congrArg _ (Real.rpow_intCast 2 z)

/-- The kernel's scale and inverse are the problem's, of a group whose greatest magnitude is a number that the largest code
scales below two to the 126. -/
theorem scale_inv (a : ℝ) (h0 : 0 ≤ a) (h1 : a * (1 / 57344) < (2 : ℝ) ^ (126 : ℤ)) :
    kScale (a : EReal) = rScale (a : EReal) ∧ kInv (a : EReal) = rInv (a : EReal) := by
  unfold kScale kInv rScale rInv
  have hF : kF (a : EReal) = ((a * (1 / 57344) : ℝ) : EReal) := by unfold kF; rw [← EReal.coe_mul]
  rw [hF]
  have hf0 : 0 ≤ a * (1 / 57344) := by positivity
  generalize a * (1 / 57344) = f at hf0 h1
  obtain ⟨N, hN, hN1, hlo, hhi⟩ := kField_spec (f : EReal) (EReal.coe_nonneg.mpr hf0)
  rw [hN]
  have h255 : N ≠ 255 := by
    rintro rfl
    rw [fieldVal_top] at hlo
    exact absurd hlo (not_le.mpr (EReal.coe_lt_top f))
  have ez : (0#32 : BitVec 32) = BitVec.ofNat 32 (0 * 8388608) := rfl
  have et : (2139095040#32 : BitVec 32) = BitVec.ofNat 32 (255 * 8388608) := rfl
  have e1 : (1065353216#32 : BitVec 32) = BitVec.ofNat 32 (127 * 8388608) := rfl
  have one : Ideal.ofBits .f32 (1065353216#32 : BitVec 32) = 1 := by
    rw [e1]
    show fieldVal 127 = 1
    rw [fieldVal_mid 127 (by norm_num) (by norm_num)]; norm_num
  rcases Nat.eq_zero_or_pos N with rfl | hp
  · have hlt : (f : EReal) < Ideal.ofBits .f32 0x00800000#32 := hhi (by norm_num)
    have hr : rExp (f : EReal) = 0 := by unfold rExp; rw [if_pos hlt]
    rw [if_pos (.inl rfl), if_pos (.inl rfl), one, hr]
    have e2 : Ideal.exp2 0 = 1 := by
      have := exp2_int 0
      simpa using this
    rw [sub_zero, e2]
    exact ⟨rfl, rfl⟩
  · rw [fieldVal_mid N hp (by omega), EReal.coe_le_coe_iff] at hlo
    have hN2 : N ≤ 252 := by
      have := (zpow_lt_zpow_iff_right₀ (by norm_num : (1 : ℝ) < 2)).mp (lt_of_le_of_lt hlo h1)
      omega
    have hhi' := hhi (by omega)
    rw [fieldVal_mid (N + 1) (by omega) (by omega), EReal.coe_lt_coe_iff] at hhi'
    have hc : ¬ (BitVec.ofNat 32 (N * 8388608) = 0#32 ∨ BitVec.ofNat 32 (N * 8388608) = 2139095040#32) := by
      rw [ez, et, ofNat_inj N 0 hN1 (by norm_num), ofNat_inj N 255 hN1 le_rfl]; omega
    rw [if_neg hc, if_neg hc]
    have hr : rExp (f : EReal) = (((((N : ℤ) - 126 : ℤ) : ℝ)) : EReal) := by
      rw [rExp_mid f N hp (by omega) hlo (by convert hhi' using 2; push_cast; ring)]
      push_cast; rfl
    constructor
    · rw [hr, exp2_int]
      have e : BitVec.ofNat 32 (N * 8388608) + 8388608#32 = BitVec.ofNat 32 ((N + 1) * 8388608) := by
        rw [Nat.add_mul, BitVec.ofNat_add]
      rw [e]
      show fieldVal (N + 1) = _
      rw [fieldVal_mid (N + 1) (by omega) (by omega)]
      congr 2
      push_cast; ring
    · rw [hr, ← EReal.coe_zero, ← EReal.coe_sub]
      have e : (2122317824#32 : BitVec 32) - BitVec.ofNat 32 (N * 8388608) = BitVec.ofNat 32 ((253 - N) * 8388608) := by
        apply BitVec.eq_of_toNat_eq
        rw [BitVec.toNat_sub, field_toNat N hN1, field_toNat (253 - N) (by omega)]
        simp only [BitVec.toNat_ofNat]
        omega
      rw [e, show (0 : ℝ) - (((N : ℤ) - 126 : ℤ) : ℝ) = ((126 - (N : ℤ) : ℤ) : ℝ) by push_cast; ring, exp2_int]
      show fieldVal (253 - N) = _
      rw [fieldVal_mid (253 - N) (by omega) (by omega)]
      congr 2
      omega

end Cert.Spec

end
-- ==== Proof.Algebraic.lean ====
module

public import proofs.«01_k».proof.Defs
public import proofs.«01_k».proof.Proof.KernelEnd
public import proofs.«01_k».proof.Proof.ReferenceValue
public import proofs.«01_k».proof.Proof.Scalar
public import proofs.«01_k».proof.Proof.Gen.Pre_finite

/-! The value claim: what the kernel's run leaves is what the reference's run leaves, result by result. -/

@[expose] public section

noncomputable section

namespace Cert.Proof

open Idealize.ShloMosaic Idealize.ShloMosaic.Tactic Idealize.SL.Sem Cert.Spec

/-! ## What the precondition says -/

theorem ofBits_largest : Ideal.ofBits .f32 0x7F7F0000#32 ≤ (((2 : ℝ) ^ 128 : ℝ) : EReal) := by
  have h : Ideal.ofBits .f32 0x7F7F0000#32 = ((16711680 * (2 : ℝ) ^ (104 : ℤ) : ℝ) : EReal) := by
    simp [Ideal.ofBits, Ideal.ieee, -EReal.coe_mul]
  rw [h, EReal.coe_le_coe_iff]
  norm_num

theorem pre_at (x g : Vec Ideal Cert.Pre_finite.S73728x1024 .bf16) (i : Fin 73728) (j : Fin 1024)
    (h : Cert.Pre_finite.fn (F := Ideal) x g = fun _ => 1#1) :
    max (g (Idealize.ShloMosaic.ix2 i j)) (-(g (Idealize.ShloMosaic.ix2 i j))) ≤ Ideal.ofBits .f32 0x7F7F0000#32 := by
  have e := congrFun h (Idealize.ShloMosaic.ix2 i j)
  by_contra hc
  have e' : Cert.Pre_finite.fn (F := Ideal) x g (Idealize.ShloMosaic.ix2 i j) = 0#1 := by
    have p : Cert.Pre_finite.fn (F := Ideal) x g (Idealize.ShloMosaic.ix2 i j) = BitVec.ofBool (decide
        (max (g (Idealize.ShloMosaic.ix2 i j)) (-(g (Idealize.ShloMosaic.ix2 i j))) ≤ Ideal.ofBits .f32 0x7F7F0000#32)) := by
      unfold Cert.Pre_finite.fn
      pointwise
      rfl
    rw [p, decide_eq_false hc]
    rfl
  rw [e] at e'
  exact absurd e' (by decide)

/-- An incoming gradient that is finite is a real number below two to the 128. -/
theorem grad_real (x g : Vec Ideal Cert.Pre_finite.S73728x1024 .bf16) (h : Cert.Pre_finite.fn (F := Ideal) x g = fun _ => 1#1)
    (i : Fin 73728) (j : Fin 1024) : ∃ r : ℝ, g (Idealize.ShloMosaic.ix2 i j) = (r : EReal) ∧ |r| ≤ (2 : ℝ) ^ 128 := by
  have b := (pre_at x g i j h).trans ofBits_largest
  generalize g (Idealize.ShloMosaic.ix2 i j) = v at b
  change EReal at v
  induction v using EReal.rec with
  | bot => exact absurd ((le_max_right _ _).trans b) (by rw [EReal.neg_bot]; exact not_le.mpr (EReal.coe_lt_top _))
  | top => exact absurd ((le_max_left _ _).trans b) (not_le.mpr (EReal.coe_lt_top _))
  | coe r =>
    refine ⟨r, rfl, ?_⟩
    rw [max_le_iff, ← EReal.coe_neg, EReal.coe_le_coe_iff, EReal.coe_le_coe_iff] at b
    exact abs_le.mpr ⟨by linarith [b.2], b.1⟩

/-! ## The scales agree -/

/-- Of a group of bounded gradients, the kernel's scale and inverse are the reference's. -/
theorem group_scale (f : Fin 32 → EReal) (hf : ∀ k, ∃ d : ℝ, f k = (d : EReal) ∧ |d| ≤ 2 * (2 : ℝ) ^ 128) :
    kScale (gmax f) = rScale (gmax f) ∧ kInv (gmax f) = rInv (gmax f) := by
  obtain ⟨a, ha, h0, hB⟩ := gmax_bounded f _ hf
  rw [ha]
  refine scale_inv a h0 (lt_of_le_of_lt (mul_le_mul_of_nonneg_right hB (by norm_num)) ?_)
  norm_num

variable (x g : Vec Ideal Cert.KernelIdeal.S73728x1024 .bf16)

theorem DA_bounded (h : Cert.Pre_finite.fn (F := Ideal) x g = fun _ => 1#1) (r c : ℕ) :
    ∃ d : ℝ, Cert.KernelIdeal.Val.DA x g r c = (d : EReal) ∧ |d| ≤ 2 * (2 : ℝ) ^ 128 := by
  unfold Cert.KernelIdeal.Val.DA
  by_cases hc : r < 73728 ∧ c < 1024
  · rw [dif_pos hc]
    obtain ⟨q, hq, hb⟩ := grad_real x g h ⟨r, hc.1⟩ ⟨c, hc.2⟩
    rw [hq, kD_eq_rD]
    exact rD_bounded _ q _ hb
  · rw [dif_neg hc]
    exact ⟨0, rfl, by rw [abs_zero]; positivity⟩

theorem DA_eq (h : Cert.Pre_finite.fn (F := Ideal) x g = fun _ => 1#1) (i : Fin 73728) (j : Fin 1024) :
    rD (x (Idealize.ShloMosaic.ix2 i j)) (g (Idealize.ShloMosaic.ix2 i j)) = Cert.KernelIdeal.Val.DA x g i.val j.val := by
  unfold Cert.KernelIdeal.Val.DA
  rw [dif_pos ⟨i.isLt, j.isLt⟩]
  obtain ⟨q, hq, _⟩ := grad_real x g h i j
  rw [hq, kD_eq_rD]

section results

variable (h : Cert.Pre_finite.fn (F := Ideal) x g = fun _ => 1#1)
include h

theorem row_scale (r k : ℕ) : kScale (rowMax (Cert.KernelIdeal.Val.DA x g) r k) = rScale (rowMax (Cert.KernelIdeal.Val.DA x g) r k)
    ∧ kInv (rowMax (Cert.KernelIdeal.Val.DA x g) r k) = rInv (rowMax (Cert.KernelIdeal.Val.DA x g) r k) :=
  group_scale _ fun _ => DA_bounded x g h _ _

theorem col_scale (k c : ℕ) : kScale (colMax (Cert.KernelIdeal.Val.DA x g) k c) = rScale (colMax (Cert.KernelIdeal.Val.DA x g) k c)
    ∧ kInv (colMax (Cert.KernelIdeal.Val.DA x g) k c) = rInv (colMax (Cert.KernelIdeal.Val.DA x g) k c) :=
  group_scale _ fun _ => DA_bounded x g h _ _

theorem result2 : Cert.ReferenceIdeal.Value.G2 x g = Cert.KernelIdeal.Val.Q2 (Cert.KernelIdeal.Val.DA x g) :=
  Cert.ReferenceIdeal.Val.ref2 x g _ (DA_eq x g h)

theorem result3 : Cert.ReferenceIdeal.Value.G3 x g = Cert.KernelIdeal.Val.R3 (Cert.KernelIdeal.Val.DA x g) := by
  refine (Cert.ReferenceIdeal.Val.ref3 x g _ (DA_eq x g h)).trans (funext fun y => ?_)
  exact congrArg (fun s => clip (_ * s)) (row_scale x g h _ _).2.symm

theorem result4 : Cert.ReferenceIdeal.Value.G4 x g = Cert.KernelIdeal.Val.Q4 (Cert.KernelIdeal.Val.DA x g) := by
  refine (Cert.ReferenceIdeal.Val.ref4 x g _ (DA_eq x g h)).trans (funext fun y => ?_)
  exact (row_scale x g h _ _).1.symm

theorem result5 : Cert.ReferenceIdeal.Value.G5 x g = Cert.KernelIdeal.Val.R5 (Cert.KernelIdeal.Val.DA x g) := by
  refine (Cert.ReferenceIdeal.Val.ref5 x g _ (DA_eq x g h)).trans (funext fun y => ?_)
  exact congrArg (fun s => clip (_ * s)) (col_scale x g h _ _).2.symm

theorem result6 : Cert.ReferenceIdeal.Value.G6 x g = Cert.KernelIdeal.Val.R6 (Cert.KernelIdeal.Val.DA x g) := by
  refine (Cert.ReferenceIdeal.Val.ref6 x g _ (DA_eq x g h)).trans (funext fun y => ?_)
  exact (col_scale x g h _ _).1.symm

end results

/-! ## The claim -/

theorem algebraic : Cert.algebraic_KernelIdeal_ReferenceIdeal_pre_finite := by
  intro m ρ m' ρ' hpre hargs
  refine ⟨fun c => Cert.KernelIdeal.Val.Q2 (Cert.KernelIdeal.Val.Dm m c), fun c => Cert.KernelIdeal.Val.R3 (Cert.KernelIdeal.Val.Dm m c),
    fun c => Cert.KernelIdeal.Val.Q4 (Cert.KernelIdeal.Val.Dm m c), fun c => Cert.KernelIdeal.Val.R5 (Cert.KernelIdeal.Val.Dm m c),
    fun c => Cert.KernelIdeal.Val.R6 (Cert.KernelIdeal.Val.Dm m c), Cert.KernelIdeal.Val.k_run m ρ,
    (θ_run _ _ _).mono (fun r h c => ?_) (Cert.ReferenceIdeal.Value.run m' ρ')⟩
  obtain ⟨h2, h3, h4, h5, h6, h0, h1⟩ := h c
  obtain ⟨a0, a1⟩ := hargs c
  refine ⟨h2.trans ?_, h3.trans ?_, h4.trans ?_, h5.trans ?_, h6.trans ?_, h0, h1⟩
  · exact (congrArg₂ Cert.ReferenceIdeal.Value.G2 a0 a1).trans (result2 _ _ (hpre c))
  · exact (congrArg₂ Cert.ReferenceIdeal.Value.G3 a0 a1).trans (result3 _ _ (hpre c))
  · exact (congrArg₂ Cert.ReferenceIdeal.Value.G4 a0 a1).trans (result4 _ _ (hpre c))
  · exact (congrArg₂ Cert.ReferenceIdeal.Value.G5 a0 a1).trans (result5 _ _ (hpre c))
  · exact (congrArg₂ Cert.ReferenceIdeal.Value.G6 a0 a1).trans (result6 _ _ (hpre c))

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_finite
public import proofs.«01_k».proof.Proof.KernelFrame
public import proofs.«01_k».proof.Proof.KernelIdealFrame
public import proofs.«01_k».proof.Proof.Preserves
public import proofs.«01_k».proof.Proof.Algebraic

/-! The proof of the certificate's claim: the frames of the three programs, the kernel's idealization, and that the idealized
kernel and the idealized reference end with equal results. -/

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.Gen.facts,
  fun m ρ _ => Cert.Kernel.Gen.frame (F := Bits) m ρ, fun m ρ _ => Cert.KernelIdeal.Gen.frame (F := Ideal) m ρ,
  fun m ρ _ => Cert.KernelIdeal.Gen.frame (F := Ideal) m ρ, fun m ρ _ => Cert.ReferenceIdeal.Gen.frame (F := Ideal) m ρ,
  fun m ρ _ => Cert.ReferenceIdeal.Gen.frame (F := Ideal) m ρ, Cert.Proof.preserves, Cert.Proof.algebraic⟩

end Cert.Proof

end
